-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S2048x16x72 : Shape := ⟨3, ![2048, 16, 72]⟩
abbrev S16x9 : Shape := ⟨2, ![16, 9]⟩
abbrev S2048x16 : Shape := ⟨2, ![2048, 16]⟩
abbrev S16 : Shape := ⟨1, ![16]⟩
abbrev S16x1 : Shape := ⟨2, ![16, 1]⟩
abbrev S128x96 : Shape := ⟨2, ![128, 96]⟩
abbrev S128 : Shape := ⟨1, ![128]⟩
abbrev S144x144 : Shape := ⟨2, ![144, 144]⟩
abbrev S144 : Shape := ⟨1, ![144]⟩
abbrev S2x144 : Shape := ⟨2, ![2, 144]⟩
abbrev S2 : Shape := ⟨1, ![2]⟩
abbrev S2048x16x36 : Shape := ⟨3, ![2048, 16, 36]⟩
abbrev S_ : Shape := ⟨0, ![]⟩

class Facts : Prop where
  slices_S2048x16x72_S2048x16x36_0_0_0 : S2048x16x72.Slices ![0, 0, 0] S2048x16x36
  bcast_S_S2048x16x36 : S_.BroadcastsInDim S2048x16x36 (![] : Fin 0 → Fin S2048x16x36.rank)
  reducesTo_S2048x16x36_S_d0_1_2 : S2048x16x36.ReducesTo [0, 1, 2] S_
  h_S_ : 0 < S_.numel
  bcast_S_S2048x16 : S_.BroadcastsInDim S2048x16 (![] : Fin 0 → Fin S2048x16.rank)
  reducesTo_S2048x16_S_d0_1 : S2048x16.ReducesTo [0, 1] S_
  bcast_S_S16x1 : S_.BroadcastsInDim S16x1 (![] : Fin 0 → Fin S16x1.rank)
  reducesTo_S16x1_S_d0_1 : S16x1.ReducesTo [0, 1] S_
  bcast_S_S16 : S_.BroadcastsInDim S16 (![] : Fin 0 → Fin S16.rank)
  reducesTo_S16_S_d0 : S16.ReducesTo [0] S_
  bcast_S_S128x96 : S_.BroadcastsInDim S128x96 (![] : Fin 0 → Fin S128x96.rank)
  reducesTo_S128x96_S_d0_1 : S128x96.ReducesTo [0, 1] S_

variable [Facts]

def fn_part1 {F : FTy → Type} [FloatOps F] (main_arg6 : FVec F S128x96 .f32) (main_v14 : IVec S_ 1) (main_v15 : FVec F S16 .f32) (main_v16 : FVec F S16 .f32) : IVec S_ 1 :=
  let main_v17 : IVec S16 1 := cmpf .olt main_v15 main_v16
  let main_c_5 : IVec S_ 1 := constantI S_ 1 1#1
  let main_v18 : IVec S_ 1 := (fun x v => Host.reduce IntOp.andi x v reducesTo_S16_S_d0 h_S_) main_v17 main_c_5
  let main_v19 : FVec F S128x96 .f32 := Host.absf main_arg6
  let main_cst_6 : FVec F S_ .f32 := constant S_ .f32 0x7F800000#32
  let main_v20 : FVec F S128x96 .f32 := broadcastInDim S128x96 ![] bcast_S_S128x96 main_cst_6
  let main_v21 : IVec S128x96 1 := cmpf .olt main_v19 main_v20
  let main_c_7 : IVec S_ 1 := constantI S_ 1 1#1
  let main_v22 : IVec S_ 1 := (fun x v => Host.reduce IntOp.andi x v reducesTo_S128x96_S_d0_1 h_S_) main_v21 main_c_7
  let main_v23 : IVec S_ 1 := andi main_v18 main_v22
  let main_v24 : IVec S_ 1 := andi main_v14 main_v23
  main_v24

def fn {F : FTy → Type} [FloatOps F] (main_arg0 : FVec F S2048x16x72 .f32) (main_arg1 : FVec F S16x9 .f32) (main_arg2 : FVec F S2048x16 .f32) (main_arg3 : IVec S16 32) (main_arg4 : FVec F S16x1 .f32) (main_arg5 : FVec F S16 .f32) (main_arg6 : FVec F S128x96 .f32) (main_arg7 : FVec F S128 .f32) (main_arg8 : FVec F S16x9 .f32) (main_arg9 : FVec F S16 .f32) (main_arg10 : FVec F S144x144 .f32) (main_arg11 : FVec F S144 .f32) (main_arg12 : FVec F S2x144 .f32) (main_arg13 : FVec F S2 .f32) : IVec S_ 1 :=
  let main_v0 : FVec F S2048x16x36 .f32 := (extractStridedSlice S2048x16x36 ![0, 0, 0] · slices_S2048x16x72_S2048x16x36_0_0_0) main_arg0
  let main_v1 : FVec F S2048x16x36 .f32 := Host.absf main_v0
  let main_cst : FVec F S_ .f32 := constant S_ .f32 0x7F800000#32
  let main_v2 : FVec F S2048x16x36 .f32 := broadcastInDim S2048x16x36 ![] bcast_S_S2048x16x36 main_cst
  let main_v3 : IVec S2048x16x36 1 := cmpf .olt main_v1 main_v2
  let main_c : IVec S_ 1 := constantI S_ 1 1#1
  let main_v4 : IVec S_ 1 := (fun x v => Host.reduce IntOp.andi x v reducesTo_S2048x16x36_S_d0_1_2 h_S_) main_v3 main_c
  let main_v5 : FVec F S2048x16 .f32 := Host.absf main_arg2
  let main_cst_0 : FVec F S_ .f32 := constant S_ .f32 0x7F800000#32
  let main_v6 : FVec F S2048x16 .f32 := broadcastInDim S2048x16 ![] bcast_S_S2048x16 main_cst_0
  let main_v7 : IVec S2048x16 1 := cmpf .olt main_v5 main_v6
  let main_c_1 : IVec S_ 1 := constantI S_ 1 1#1
  let main_v8 : IVec S_ 1 := (fun x v => Host.reduce IntOp.andi x v reducesTo_S2048x16_S_d0_1 h_S_) main_v7 main_c_1
  let main_v9 : IVec S_ 1 := andi main_v4 main_v8
  let main_v10 : FVec F S16x1 .f32 := Host.absf main_arg4
  let main_cst_2 : FVec F S_ .f32 := constant S_ .f32 0x7F800000#32
  let main_v11 : FVec F S16x1 .f32 := broadcastInDim S16x1 ![] bcast_S_S16x1 main_cst_2
  let main_v12 : IVec S16x1 1 := cmpf .olt main_v10 main_v11
  let main_c_3 : IVec S_ 1 := constantI S_ 1 1#1
  let main_v13 : IVec S_ 1 := (fun x v => Host.reduce IntOp.andi x v reducesTo_S16x1_S_d0_1 h_S_) main_v12 main_c_3
  let main_v14 : IVec S_ 1 := andi main_v9 main_v13
  let main_v15 : FVec F S16 .f32 := Host.absf main_arg5
  let main_cst_4 : FVec F S_ .f32 := constant S_ .f32 0x7F800000#32
  let main_v16 : FVec F S16 .f32 := broadcastInDim S16 ![] bcast_S_S16 main_cst_4
  fn_part1 (F := F) main_arg6 main_v14 main_v15 main_v16
-- ==== Kernel.lean ====
abbrev S2048x16x72 : Shape := ⟨3, ![2048, 16, 72]⟩
abbrev S16x9 : Shape := ⟨2, ![16, 9]⟩
abbrev S2048x16 : Shape := ⟨2, ![2048, 16]⟩
abbrev S16 : Shape := ⟨1, ![16]⟩
abbrev S16x1 : Shape := ⟨2, ![16, 1]⟩
abbrev S128x96 : Shape := ⟨2, ![128, 96]⟩
abbrev S128 : Shape := ⟨1, ![128]⟩
abbrev S144x144 : Shape := ⟨2, ![144, 144]⟩
abbrev S144 : Shape := ⟨1, ![144]⟩
abbrev S2x144 : Shape := ⟨2, ![2, 144]⟩
abbrev S2 : Shape := ⟨1, ![2]⟩
abbrev S8 : Shape := ⟨1, ![8]⟩
abbrev S1x8 : Shape := ⟨2, ![1, 8]⟩
abbrev S128x1 : Shape := ⟨2, ![128, 1]⟩
abbrev S128x128 : Shape := ⟨2, ![128, 128]⟩
abbrev S16x72x2048 : Shape := ⟨3, ![16, 72, 2048]⟩
abbrev S16x2048 : Shape := ⟨2, ![16, 2048]⟩
abbrev S96x128 : Shape := ⟨2, ![96, 128]⟩
abbrev S36 : Shape := ⟨1, ![36]⟩
abbrev S36x1 : Shape := ⟨2, ![36, 1]⟩
abbrev S36x8 : Shape := ⟨2, ![36, 8]⟩
abbrev S36x16 : Shape := ⟨2, ![36, 16]⟩
abbrev S1x16 : Shape := ⟨2, ![1, 16]⟩
abbrev S1x128 : Shape := ⟨2, ![1, 128]⟩
abbrev S1x144 : Shape := ⟨2, ![1, 144]⟩
abbrev S1x2 : Shape := ⟨2, ![1, 2]⟩
abbrev S16x2 : Shape := ⟨2, ![16, 2]⟩
abbrev S16x72x512 : Shape := ⟨3, ![16, 72, 512]⟩
abbrev S16x512 : Shape := ⟨2, ![16, 512]⟩
abbrev S128x512 : Shape := ⟨2, ![128, 512]⟩
abbrev S16x36x512 : Shape := ⟨3, ![16, 36, 512]⟩
abbrev S16x36 : Shape := ⟨2, ![16, 36]⟩
abbrev S16x16 : Shape := ⟨2, ![16, 16]⟩
abbrev S128x2 : Shape := ⟨2, ![128, 2]⟩
abbrev S2x128 : Shape := ⟨2, ![2, 128]⟩
abbrev S48x128 : Shape := ⟨2, ![48, 128]⟩
abbrev S16x128 : Shape := ⟨2, ![16, 128]⟩
abbrev S16x144 : Shape := ⟨2, ![16, 144]⟩

abbrev nBuf : Space → Nat
  | .hbm => 36
  | .vmem => 23
  | .smem => 0
  | _ => 0

abbrev bufTy : (tb : Table) → Fin (tcTables nBuf tb) → BufTy
  | .hbm, ⟨0, _⟩ => ⟨S2048x16x72, .f32⟩
  | .hbm, ⟨1, _⟩ => ⟨S16x9, .f32⟩
  | .hbm, ⟨2, _⟩ => ⟨S2048x16, .f32⟩
  | .hbm, ⟨3, _⟩ => ⟨S16, .i32⟩
  | .hbm, ⟨4, _⟩ => ⟨S16x1, .f32⟩
  | .hbm, ⟨5, _⟩ => ⟨S16, .f32⟩
  | .hbm, ⟨6, _⟩ => ⟨S128x96, .f32⟩
  | .hbm, ⟨7, _⟩ => ⟨S128, .f32⟩
  | .hbm, ⟨8, _⟩ => ⟨S16x9, .f32⟩
  | .hbm, ⟨9, _⟩ => ⟨S16, .f32⟩
  | .hbm, ⟨10, _⟩ => ⟨S144x144, .f32⟩
  | .hbm, ⟨11, _⟩ => ⟨S144, .f32⟩
  | .hbm, ⟨12, _⟩ => ⟨S2x144, .f32⟩
  | .hbm, ⟨13, _⟩ => ⟨S2, .f32⟩
  | .hbm, ⟨14, _⟩ => ⟨S8, .f32⟩
  | .hbm, ⟨15, _⟩ => ⟨S1x8, .f32⟩
  | .hbm, ⟨16, _⟩ => ⟨S128x1, .f32⟩
  | .hbm, ⟨17, _⟩ => ⟨S128x128, .f32⟩
  | .hbm, ⟨18, _⟩ => ⟨S16x72x2048, .f32⟩
  | .hbm, ⟨19, _⟩ => ⟨S16x2048, .f32⟩
  | .hbm, ⟨20, _⟩ => ⟨S96x128, .f32⟩
  | .hbm, ⟨21, _⟩ => ⟨S36, .f32⟩
  | .hbm, ⟨22, _⟩ => ⟨S36x1, .f32⟩
  | .hbm, ⟨23, _⟩ => ⟨S36x8, .f32⟩
  | .hbm, ⟨24, _⟩ => ⟨S36x8, .f32⟩
  | .hbm, ⟨25, _⟩ => ⟨S36x8, .f32⟩
  | .hbm, ⟨26, _⟩ => ⟨S36x8, .f32⟩
  | .hbm, ⟨27, _⟩ => ⟨S36x8, .f32⟩
  | .hbm, ⟨28, _⟩ => ⟨S36x16, .f32⟩
  | .hbm, ⟨29, _⟩ => ⟨S1x16, .f32⟩
  | .hbm, ⟨30, _⟩ => ⟨S1x16, .f32⟩
  | .hbm, ⟨31, _⟩ => ⟨S1x128, .f32⟩
  | .hbm, ⟨32, _⟩ => ⟨S1x16, .f32⟩
  | .hbm, ⟨33, _⟩ => ⟨S1x144, .f32⟩
  | .hbm, ⟨34, _⟩ => ⟨S1x2, .f32⟩
  | .hbm, ⟨35, _⟩ => ⟨S16x2, .f32⟩
  | .local _ .vmem, ⟨0, _⟩ => ⟨S16x72x512, .f32⟩
  | .local _ .vmem, ⟨1, _⟩ => ⟨S16x72x512, .f32⟩
  | .local _ .vmem, ⟨2, _⟩ => ⟨S16x512, .f32⟩
  | .local _ .vmem, ⟨3, _⟩ => ⟨S16x512, .f32⟩
  | .local _ .vmem, ⟨4, _⟩ => ⟨S16x9, .f32⟩
  | .local _ .vmem, ⟨5, _⟩ => ⟨S128x1, .f32⟩
  | .local _ .vmem, ⟨6, _⟩ => ⟨S36x16, .f32⟩
  | .local _ .vmem, ⟨7, _⟩ => ⟨S128x128, .f32⟩
  | .local _ .vmem, ⟨8, _⟩ => ⟨S1x16, .f32⟩
  | .local _ .vmem, ⟨9, _⟩ => ⟨S1x16, .f32⟩
  | .local _ .vmem, ⟨10, _⟩ => ⟨S96x128, .f32⟩
  | .local _ .vmem, ⟨11, _⟩ => ⟨S1x128, .f32⟩
  | .local _ .vmem, ⟨12, _⟩ => ⟨S16x9, .f32⟩
  | .local _ .vmem, ⟨13, _⟩ => ⟨S1x16, .f32⟩
  | .local _ .vmem, ⟨14, _⟩ => ⟨S144x144, .f32⟩
  | .local _ .vmem, ⟨15, _⟩ => ⟨S1x144, .f32⟩
  | .local _ .vmem, ⟨16, _⟩ => ⟨S2x144, .f32⟩
  | .local _ .vmem, ⟨17, _⟩ => ⟨S1x2, .f32⟩
  | .local _ .vmem, ⟨18, _⟩ => ⟨S16x2, .f32⟩
  | .local _ .vmem, ⟨19, _⟩ => ⟨S128x512, .f32⟩
  | .local _ .vmem, ⟨20, _⟩ => ⟨S128x512, .f32⟩
  | .local _ .vmem, ⟨21, _⟩ => ⟨S16x36x512, .f32⟩
  | .local _ .vmem, ⟨22, _⟩ => ⟨S16x512, .f32⟩
  | _, _ => ⟨S2048x16x72, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_call0_cst : Ref sig .tc := ⟨.hbm, 14, rfl⟩
abbrev main_call0_v0 : Ref sig .tc := ⟨.hbm, 15, rfl⟩
abbrev main_call0_cst_0 : Ref sig .tc := ⟨.hbm, 16, rfl⟩
abbrev main_call0_cst_1 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_v12 : Ref sig .tc := ⟨.hbm, 29, rfl⟩
abbrev main_call0_v13 : Ref sig .tc := ⟨.hbm, 30, rfl⟩
abbrev main_call0_v14 : Ref sig .tc := ⟨.hbm, 31, rfl⟩
abbrev main_call0_v15 : Ref sig .tc := ⟨.hbm, 32, rfl⟩
abbrev main_call0_v16 : Ref sig .tc := ⟨.hbm, 33, rfl⟩
abbrev main_call0_v17 : Ref sig .tc := ⟨.hbm, 34, rfl⟩
abbrev main_v0 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg16_0 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_scratch3 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem16_0 : DmaSem sig := 18

abbrev nD : Nat := 1
abbrev τ : Topo := Topo.v7x

variable {F : FTy → Type} [FloatOps F]

abbrev grid0 : Pipeline.Grid := ⟨1, ![4], ![false]⟩

def k0_cond2 (i : grid0.Coords) : BitVec 1 :=
  let arg0 : BitVec 32 := BitVec.ofNat 32 (i 0).val
  let c3_i32 : BitVec 32 := 3#32
  let v43 : BitVec 1 := Scalar.cmpi .eq arg0 c3_i32
  let v44 : BitVec 32 := Scalar.extui v43
  let c0_i32_27 : BitVec 32 := 0#32
  let v45 : BitVec 1 := Scalar.cmpi .ne v44 c0_i32_27
  v45

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S16x72x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S16x9 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S36x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x16 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S96x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S16x9 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x16 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S144x144 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x144 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S2x144 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x2 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S16x2 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]
-- ==== ReferenceIdeal.lean ====
abbrev S2048x16x72 : Shape := ⟨3, ![2048, 16, 72]⟩
abbrev S16x9 : Shape := ⟨2, ![16, 9]⟩
abbrev S2048x16 : Shape := ⟨2, ![2048, 16]⟩
abbrev S16 : Shape := ⟨1, ![16]⟩
abbrev S16x1 : Shape := ⟨2, ![16, 1]⟩
abbrev S128x96 : Shape := ⟨2, ![128, 96]⟩
abbrev S128 : Shape := ⟨1, ![128]⟩
abbrev S144x144 : Shape := ⟨2, ![144, 144]⟩
abbrev S144 : Shape := ⟨1, ![144]⟩
abbrev S2x144 : Shape := ⟨2, ![2, 144]⟩
abbrev S2 : Shape := ⟨1, ![2]⟩
abbrev S8 : Shape := ⟨1, ![8]⟩
abbrev S16x2048x72 : Shape := ⟨3, ![16, 2048, 72]⟩
abbrev S16x2048x36 : Shape := ⟨3, ![16, 2048, 36]⟩
abbrev S_ : Shape := ⟨0, ![]⟩
abbrev S16x2048x36x1 : Shape := ⟨4, ![16, 2048, 36, 1]⟩
abbrev S16x2048 : Shape := ⟨2, ![16, 2048]⟩
abbrev S16x2048x1 : Shape := ⟨3, ![16, 2048, 1]⟩
abbrev S1x1x8 : Shape := ⟨3, ![1, 1, 8]⟩
abbrev S16x2048x8 : Shape := ⟨3, ![16, 2048, 8]⟩
abbrev S16x2048x16 : Shape := ⟨3, ![16, 2048, 16]⟩
abbrev S1x1x1x16 : Shape := ⟨4, ![1, 1, 1, 16]⟩
abbrev S16x2048x36x16 : Shape := ⟨4, ![16, 2048, 36, 16]⟩
abbrev S36 : Shape := ⟨1, ![36]⟩
abbrev S36x1 : Shape := ⟨2, ![36, 1]⟩
abbrev S1x8 : Shape := ⟨2, ![1, 8]⟩
abbrev S36x8 : Shape := ⟨2, ![36, 8]⟩
abbrev S36x16 : Shape := ⟨2, ![36, 16]⟩
abbrev S16x2048x1x16 : Shape := ⟨4, ![16, 2048, 1, 16]⟩
abbrev S16x16 : Shape := ⟨2, ![16, 16]⟩
abbrev S1x1x36x16 : Shape := ⟨4, ![1, 1, 36, 16]⟩
abbrev S16x48 : Shape := ⟨2, ![16, 48]⟩
abbrev S16x96 : Shape := ⟨2, ![16, 96]⟩
abbrev S96x128 : Shape := ⟨2, ![96, 128]⟩
abbrev S16x128 : Shape := ⟨2, ![16, 128]⟩
abbrev S1x128 : Shape := ⟨2, ![1, 128]⟩
abbrev S9x16 : Shape := ⟨2, ![9, 16]⟩
abbrev S1x16 : Shape := ⟨2, ![1, 16]⟩
abbrev S16x144 : Shape := ⟨2, ![16, 144]⟩
abbrev S1x144 : Shape := ⟨2, ![1, 144]⟩
abbrev S144x2 : Shape := ⟨2, ![144, 2]⟩
abbrev S16x2 : Shape := ⟨2, ![16, 2]⟩
abbrev S1x2 : Shape := ⟨2, ![1, 2]⟩

abbrev nBuf : Space → Nat
  | .hbm => 109
  | .vmem => 0
  | .smem => 0
  | _ => 0

abbrev bufTy : (tb : Table) → Fin (tcTables nBuf tb) → BufTy
  | .hbm, ⟨0, _⟩ => ⟨S2048x16x72, .f32⟩
  | .hbm, ⟨1, _⟩ => ⟨S16x9, .f32⟩
  | .hbm, ⟨2, _⟩ => ⟨S2048x16, .f32⟩
  | .hbm, ⟨3, _⟩ => ⟨S16, .i32⟩
  | .hbm, ⟨4, _⟩ => ⟨S16x1, .f32⟩
  | .hbm, ⟨5, _⟩ => ⟨S16, .f32⟩
  | .hbm, ⟨6, _⟩ => ⟨S128x96, .f32⟩
  | .hbm, ⟨7, _⟩ => ⟨S128, .f32⟩
  | .hbm, ⟨8, _⟩ => ⟨S16x9, .f32⟩
  | .hbm, ⟨9, _⟩ => ⟨S16, .f32⟩
  | .hbm, ⟨10, _⟩ => ⟨S144x144, .f32⟩
  | .hbm, ⟨11, _⟩ => ⟨S144, .f32⟩
  | .hbm, ⟨12, _⟩ => ⟨S2x144, .f32⟩
  | .hbm, ⟨13, _⟩ => ⟨S2, .f32⟩
  | .hbm, ⟨14, _⟩ => ⟨S8, .f32⟩
  | .hbm, ⟨15, _⟩ => ⟨S8, .f32⟩
  | .hbm, ⟨16, _⟩ => ⟨S16x2048x72, .f32⟩
  | .hbm, ⟨17, _⟩ => ⟨S16x2048x36, .f32⟩
  | .hbm, ⟨18, _⟩ => ⟨S_, .f32⟩
  | .hbm, ⟨19, _⟩ => ⟨S16x2048x36, .f32⟩
  | .hbm, ⟨20, _⟩ => ⟨S16x2048x36, .i1⟩
  | .hbm, ⟨21, _⟩ => ⟨S16x2048x36, .f32⟩
  | .hbm, ⟨22, _⟩ => ⟨S16x2048x36x1, .f32⟩
  | .hbm, ⟨23, _⟩ => ⟨S_, .f32⟩
  | .hbm, ⟨24, _⟩ => ⟨S16, .f32⟩
  | .hbm, ⟨25, _⟩ => ⟨S_, .f32⟩
  | .hbm, ⟨26, _⟩ => ⟨S16, .f32⟩
  | .hbm, ⟨27, _⟩ => ⟨S16, .f32⟩
  | .hbm, ⟨28, _⟩ => ⟨S16x2048, .f32⟩
  | .hbm, ⟨29, _⟩ => ⟨S16x2048x1, .f32⟩
  | .hbm, ⟨30, _⟩ => ⟨S1x1x8, .f32⟩
  | .hbm, ⟨31, _⟩ => ⟨S16x2048x8, .f32⟩
  | .hbm, ⟨32, _⟩ => ⟨S16x2048x8, .f32⟩
  | .hbm, ⟨33, _⟩ => ⟨S16x2048x8, .f32⟩
  | .hbm, ⟨34, _⟩ => ⟨S16x2048x8, .f32⟩
  | .hbm, ⟨35, _⟩ => ⟨S16x2048x8, .f32⟩
  | .hbm, ⟨36, _⟩ => ⟨S16x2048x16, .f32⟩
  | .hbm, ⟨37, _⟩ => ⟨S16x2048x36x1, .f32⟩
  | .hbm, ⟨38, _⟩ => ⟨S16, .f32⟩
  | .hbm, ⟨39, _⟩ => ⟨S1x1x1x16, .f32⟩
  | .hbm, ⟨40, _⟩ => ⟨S16x2048x36x16, .f32⟩
  | .hbm, ⟨41, _⟩ => ⟨S16x2048x36x16, .f32⟩
  | .hbm, ⟨42, _⟩ => ⟨S16x2048x36x16, .f32⟩
  | .hbm, ⟨43, _⟩ => ⟨S1x1x1x16, .f32⟩
  | .hbm, ⟨44, _⟩ => ⟨S16x2048x36x16, .f32⟩
  | .hbm, ⟨45, _⟩ => ⟨S16x2048x36x16, .f32⟩
  | .hbm, ⟨46, _⟩ => ⟨S36, .f32⟩
  | .hbm, ⟨47, _⟩ => ⟨S36x1, .f32⟩
  | .hbm, ⟨48, _⟩ => ⟨S1x8, .f32⟩
  | .hbm, ⟨49, _⟩ => ⟨S36x8, .f32⟩
  | .hbm, ⟨50, _⟩ => ⟨S36x8, .f32⟩
  | .hbm, ⟨51, _⟩ => ⟨S36x8, .f32⟩
  | .hbm, ⟨52, _⟩ => ⟨S36x8, .f32⟩
  | .hbm, ⟨53, _⟩ => ⟨S36x8, .f32⟩
  | .hbm, ⟨54, _⟩ => ⟨S36x16, .f32⟩
  | .hbm, ⟨55, _⟩ => ⟨S16x2048x1x16, .f32⟩
  | .hbm, ⟨56, _⟩ => ⟨S16x2048x36x16, .f32⟩
  | .hbm, ⟨57, _⟩ => ⟨S16x2048x36x16, .f32⟩
  | .hbm, ⟨58, _⟩ => ⟨S16x2048x36x16, .f32⟩
  | .hbm, ⟨59, _⟩ => ⟨S_, .f32⟩
  | .hbm, ⟨60, _⟩ => ⟨S16x16, .f32⟩
  | .hbm, ⟨61, _⟩ => ⟨S16x2048x36x16, .f32⟩
  | .hbm, ⟨62, _⟩ => ⟨S16x2048x36x16, .f32⟩
  | .hbm, ⟨63, _⟩ => ⟨S_, .f32⟩
  | .hbm, ⟨64, _⟩ => ⟨S16x16, .f32⟩
  | .hbm, ⟨65, _⟩ => ⟨S1x1x36x16, .f32⟩
  | .hbm, ⟨66, _⟩ => ⟨S16x2048x36x16, .f32⟩
  | .hbm, ⟨67, _⟩ => ⟨S16x2048x36x16, .f32⟩
  | .hbm, ⟨68, _⟩ => ⟨S16x2048x36x16, .f32⟩
  | .hbm, ⟨69, _⟩ => ⟨S_, .f32⟩
  | .hbm, ⟨70, _⟩ => ⟨S16x16, .f32⟩
  | .hbm, ⟨71, _⟩ => ⟨S16x48, .f32⟩
  | .hbm, ⟨72, _⟩ => ⟨S16x1, .f32⟩
  | .hbm, ⟨73, _⟩ => ⟨S16x48, .f32⟩
  | .hbm, ⟨74, _⟩ => ⟨S16x48, .f32⟩
  | .hbm, ⟨75, _⟩ => ⟨S16x96, .f32⟩
  | .hbm, ⟨76, _⟩ => ⟨S16x1, .f32⟩
  | .hbm, ⟨77, _⟩ => ⟨S_, .f32⟩
  | .hbm, ⟨78, _⟩ => ⟨S16x1, .f32⟩
  | .hbm, ⟨79, _⟩ => ⟨S16x1, .i1⟩
  | .hbm, ⟨80, _⟩ => ⟨S_, .f32⟩
  | .hbm, ⟨81, _⟩ => ⟨S_, .f32⟩
  | .hbm, ⟨82, _⟩ => ⟨S16x96, .i1⟩
  | .hbm, ⟨83, _⟩ => ⟨S16x96, .f32⟩
  | .hbm, ⟨84, _⟩ => ⟨S16x96, .f32⟩
  | .hbm, ⟨85, _⟩ => ⟨S96x128, .f32⟩
  | .hbm, ⟨86, _⟩ => ⟨S16x128, .f32⟩
  | .hbm, ⟨87, _⟩ => ⟨S1x128, .f32⟩
  | .hbm, ⟨88, _⟩ => ⟨S16x128, .f32⟩
  | .hbm, ⟨89, _⟩ => ⟨S16x128, .f32⟩
  | .hbm, ⟨90, _⟩ => ⟨S9x16, .f32⟩
  | .hbm, ⟨91, _⟩ => ⟨S16x16, .f32⟩
  | .hbm, ⟨92, _⟩ => ⟨S1x16, .f32⟩
  | .hbm, ⟨93, _⟩ => ⟨S16x16, .f32⟩
  | .hbm, ⟨94, _⟩ => ⟨S16x16, .f32⟩
  | .hbm, ⟨95, _⟩ => ⟨S16x144, .f32⟩
  | .hbm, ⟨96, _⟩ => ⟨S144x144, .f32⟩
  | .hbm, ⟨97, _⟩ => ⟨S16x144, .f32⟩
  | .hbm, ⟨98, _⟩ => ⟨S1x144, .f32⟩
  | .hbm, ⟨99, _⟩ => ⟨S16x144, .f32⟩
  | .hbm, ⟨100, _⟩ => ⟨S16x144, .f32⟩
  | .hbm, ⟨101, _⟩ => ⟨S_, .f32⟩
  | .hbm, ⟨102, _⟩ => ⟨S16x144, .f32⟩
  | .hbm, ⟨103, _⟩ => ⟨S16x144, .f32⟩
  | .hbm, ⟨104, _⟩ => ⟨S144x2, .f32⟩
  | .hbm, ⟨105, _⟩ => ⟨S16x2, .f32⟩
  | .hbm, ⟨106, _⟩ => ⟨S1x2, .f32⟩
  | .hbm, ⟨107, _⟩ => ⟨S16x2, .f32⟩
  | .hbm, ⟨108, _⟩ => ⟨S16x2, .f32⟩
  | _, _ => ⟨S2048x16x72, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_cst_0 : Ref sig .tc := ⟨.hbm, 15, rfl⟩
abbrev main_v0 : Ref sig .tc := ⟨.hbm, 16, rfl⟩
abbrev main_v1 : Ref sig .tc := ⟨.hbm, 17, rfl⟩
abbrev main_cst_1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_cst_2 : Ref sig .tc := ⟨.hbm, 23, rfl⟩
abbrev main_v6 : Ref sig .tc := ⟨.hbm, 24, rfl⟩
abbrev main_cst_3 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_4 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_5 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_6 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_cst_7 : Ref sig .tc := ⟨.hbm, 77, rfl⟩
abbrev main_v55 : Ref sig .tc := ⟨.hbm, 78, rfl⟩
abbrev main_v56 : Ref sig .tc := ⟨.hbm, 79, rfl⟩
abbrev main_cst_8 : Ref sig .tc := ⟨.hbm, 80, rfl⟩
abbrev main_call0_v0 : Ref sig .tc := ⟨.hbm, 81, rfl⟩
abbrev main_call0_v1 : Ref sig .tc := ⟨.hbm, 82, rfl⟩
abbrev main_call0_v2 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_call1_cst : Ref sig .tc := ⟨.hbm, 101, rfl⟩
abbrev main_call1_v0 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩

abbrev nD : Nat := 1
abbrev τ : Topo := Topo.v7x

variable {F : FTy → Type} [FloatOps F]
-- ==== Proof.Spec.lean ====
/-
  The pure mathematics of the pair, over the extended reals and over the reals: one row of the encoder's mapped features
  as the kernel sums it (`kerRow`) and as the reference sums it (`refRow`), and the theorem that the two are equal where
  the data are real numbers (`kerRow_eq_refRow`).  Nothing here mentions a program.
-/
module

public import Idealize.ShloMosaic.Lib.Pointwise

@[expose] public section

noncomputable section

namespace Cert.Seft

open Idealize.ShloMosaic

/-- The mask of an observation: 1 where the value is not zero, else 0. -/
def mk (x : EReal) : EReal := if x = 0 then 0 else 1

/-- The mask of a real number, as a real number. -/
def mkR (r : ℝ) : ℝ := if r = 0 then 0 else 1

variable {T V : ℕ}

/-- How many of the observations of one sample are not zero. -/
def cnt (x : Fin T → Fin V → EReal) : EReal := ∑ t, ∑ v, mk (x t v)

/-- One mapped feature of one sample as the kernel has it: the three sums (times, values, variables) each times the sum
of the two halves of the weights, the quotient by the count taken last.  `p` is the times' encoding, `q` the variables',
`wv` and `bv` the value layer, `w` one row of the map. -/
def kerRow (x : Fin T → Fin V → EReal) (p : Fin T → Fin 16 → EReal) (q : Fin V → Fin 16 → EReal) (wv bv : Fin 16 → EReal)
    (w : Fin 96 → EReal) : EReal :=
  if 0 < cnt x then
    Ideal.div
      ((∑ e : Fin 16, (∑ t, p t e * ∑ v, mk (x t v)) * (w ⟨e.val, by omega⟩ + w ⟨48 + e.val, by omega⟩)
        + ∑ e : Fin 16, ((∑ t, ∑ v, x t v) * wv e + cnt x * bv e) * (w ⟨16 + e.val, by omega⟩ + w ⟨64 + e.val, by omega⟩))
        + ∑ e : Fin 16, (∑ v, (∑ t, mk (x t v)) * q v e) * (w ⟨32 + e.val, by omega⟩ + w ⟨80 + e.val, by omega⟩))
      (max (cnt x) 1)
  else 0

/-- The 48 summed features of one sample as the reference has them: every encoding times the mask, summed over the
observations; the values' embedding at each observation. -/
def feat (x : Fin T → Fin V → EReal) (p : Fin T → Fin 16 → EReal) (q : Fin V → Fin 16 → EReal) (wv bv : Fin 16 → EReal)
    (k : ℕ) : EReal :=
  if h : k < 16 then ∑ t, ∑ v, p t ⟨k, h⟩ * mk (x t v)
  else if h : k - 16 < 16 then ∑ t, ∑ v, (x t v * wv ⟨k - 16, h⟩ + bv ⟨k - 16, h⟩) * mk (x t v)
  else if h : k - 32 < 16 then ∑ t, ∑ v, q v ⟨k - 32, h⟩ * mk (x t v)
  else 0

/-- One mapped feature of one sample as the reference has it: the 48 features twice, each divided by the count, zero for
a sample without observations, times the 96 weights. -/
def refRow (x : Fin T → Fin V → EReal) (p : Fin T → Fin 16 → EReal) (q : Fin V → Fin 16 → EReal) (wv bv : Fin 16 → EReal)
    (w : Fin 96 → EReal) : EReal :=
  ∑ k : Fin 96, (if 0 < cnt x then Ideal.div (feat x p q wv bv (k.val % 48)) (max (cnt x) 1) else 0) * w k

/-- The layers after the map, of one sample: the mapped features beside the static embedding, a layer with a positive part,
a last layer. -/
def tailRow (A : Fin 128 → EReal) (st : Fin 9 → EReal) (We : Fin 16 → Fin 9 → EReal) (be : Fin 16 → EReal)
    (W1 : Fin 144 → Fin 144 → EReal) (b1 : Fin 144 → EReal) (W2 : Fin 2 → Fin 144 → EReal) (b2 : Fin 2 → EReal) (n : Fin 2) : EReal :=
  (∑ k : Fin 144, max ((∑ l : Fin 144, (if h : l.val < 128 then A ⟨l.val, h⟩
      else (∑ q : Fin 9, st q * We ⟨l.val - 128, by omega⟩ q) + be ⟨l.val - 128, by omega⟩) * W1 k l) + b1 k) 0 * W2 n k) + b2 n

/-! ## The encodings -/

/-- The eight timescales, as the words both programs print. -/
def tsWord : Fin 8 → BitVec 32
  | 0 => 0x3F800000#32 | 1 => 0x403E3510#32 | 2 => 0x410D52CE#32 | 3 => 0x41D2017F#32
  | 4 => 0x429C08A4#32 | 5 => 0x4367DD82#32 | 6 => 0x442C4675#32 | 7 => 0x45000000#32

/-- The eight timescales. -/
def ts (d : Fin 8) : EReal := Ideal.ofBits .f32 (tsWord d)

/-- The encoding of a number: the sines of it over the eight timescales, then the cosines. -/
def enc (x : EReal) (e : Fin 16) : EReal :=
  if h : e.val < 8 then Ideal.sin (Ideal.div x (ts ⟨e.val, h⟩)) else Ideal.cos (Ideal.div x (ts ⟨e.val - 8, by omega⟩))

/-- Variable `v`'s number, as both programs read it. -/
def varNum (v : Fin 36) : EReal := FloatOps.sitofp (F := Ideal) .f32 (BitVec.ofNat 32 v.val)

/-! ## Real numbers inside the extended reals -/

/-- A finite sum of real numbers, taken in the extended reals, is the real sum. -/
theorem coe_sum {ι : Type} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

/-- The mask of a real number is a real number. -/
theorem mk_coe (r : ℝ) : mk (r : EReal) = (mkR r : EReal) := by
  unfold mk mkR
  by_cases h : r = 0
  · simp [h]
  · rw [if_neg h, if_neg (by simpa using h)]; rfl

/-- A real number divided by a real number that is not zero. -/
theorem div_coe_of_ne {a b : ℝ} (h : b ≠ 0) : Ideal.div (a : EReal) (b : EReal) = ((a / b : ℝ) : EReal) := by
  have h' : (b : EReal) ≠ 0 := by simpa using h
  unfold Ideal.div
  rw [if_neg h', div_eq_mul_inv, EReal.coe_mul, EReal.coe_inv]

/-- A word whose exponent field is neither all zeros nor all ones is a real number that is not zero. -/
theorem normal_real (w : BitVec 32) (h1 : (w.extractLsb' 23 8).toNat ≠ 2 ^ 8 - 1) (h0 : (w.extractLsb' 23 8).toNat ≠ 0) :
    ∃ r : ℝ, r ≠ 0 ∧ Ideal.ofBits .f32 w = (r : EReal) := by
  refine ⟨_, ?_, show Ideal.ieee 8 23 w = _ from by unfold Ideal.ieee; simp only [if_neg h1, if_neg h0]; rfl⟩
  refine mul_ne_zero (mul_ne_zero ?_ ?_) ?_
  · split_ifs <;> norm_num
  · positivity
  · positivity

/-- Every timescale is a real number that is not zero. -/
theorem ts_real (d : Fin 8) : ∃ r : ℝ, r ≠ 0 ∧ ts d = (r : EReal) := by
  refine normal_real _ ?_ ?_ <;> revert d <;> decide

/-- The encoding of a real number is real. -/
theorem enc_real (x : ℝ) (e : Fin 16) : ∃ r : ℝ, enc (x : EReal) e = (r : EReal) := by
  unfold enc
  split_ifs with h
  · obtain ⟨t, ht, e1⟩ := ts_real ⟨e.val, h⟩
    exact ⟨_, by rw [e1, div_coe_of_ne ht, Ideal.sin_coe]⟩
  · obtain ⟨t, ht, e1⟩ := ts_real ⟨e.val - 8, by omega⟩
    exact ⟨_, by rw [e1, div_coe_of_ne ht, Ideal.cos_coe]⟩

/-- A variable's number is real. -/
theorem varNum_real (v : Fin 36) : ∃ r : ℝ, varNum v = (r : EReal) := ⟨_, rfl⟩

/-- The masked value of an observation is its value. -/
theorem mul_mkR (r : ℝ) : r * mkR r = r := by
  unfold mkR; by_cases h : r = 0 <;> simp [h]

/-- A sum over 96 positions by the 16 positions of six pieces. -/
theorem sum96 (g : Fin 96 → ℝ) :
    ∑ k, g k = ∑ e : Fin 16, (g ⟨e.val, by omega⟩ + g ⟨16 + e.val, by omega⟩ + g ⟨32 + e.val, by omega⟩
      + g ⟨48 + e.val, by omega⟩ + g ⟨64 + e.val, by omega⟩ + g ⟨80 + e.val, by omega⟩) := by
  rw [Fin.sum_univ_tiles 6 16 rfl g, Finset.sum_comm]
  refine Finset.sum_congr rfl fun e _ => ?_
  simp only [Fin.sum_univ_succ, Fin.sum_univ_zero, Finset.univ_eq_empty, Finset.sum_empty, add_zero, Fin.val_succ, Fin.val_zero,
    zero_mul, zero_add, one_mul, Nat.reduceAdd, Nat.reduceMul]
  ring

/-- Over the real numbers: the three sums times the added weights, divided, are the sum of the divided features times
the weights. -/
theorem row_real (x μ : Fin T → Fin V → ℝ) (hμ : ∀ t v, x t v * μ t v = x t v) (p : Fin T → Fin 16 → ℝ)
    (q : Fin V → Fin 16 → ℝ) (wv bv : Fin 16 → ℝ) (w : Fin 96 → ℝ) (d : ℝ) :
    ((∑ e : Fin 16, (∑ t, p t e * ∑ v, μ t v) * (w ⟨e.val, by omega⟩ + w ⟨48 + e.val, by omega⟩)
        + ∑ e : Fin 16, ((∑ t, ∑ v, x t v) * wv e + (∑ t, ∑ v, μ t v) * bv e) * (w ⟨16 + e.val, by omega⟩ + w ⟨64 + e.val, by omega⟩))
        + ∑ e : Fin 16, (∑ v, (∑ t, μ t v) * q v e) * (w ⟨32 + e.val, by omega⟩ + w ⟨80 + e.val, by omega⟩)) / d
    = ∑ e : Fin 16, ((∑ t, ∑ v, p t e * μ t v) / d * w ⟨e.val, by omega⟩
        + (∑ t, ∑ v, (x t v * wv e + bv e) * μ t v) / d * w ⟨16 + e.val, by omega⟩
        + (∑ t, ∑ v, q v e * μ t v) / d * w ⟨32 + e.val, by omega⟩
        + (∑ t, ∑ v, p t e * μ t v) / d * w ⟨48 + e.val, by omega⟩
        + (∑ t, ∑ v, (x t v * wv e + bv e) * μ t v) / d * w ⟨64 + e.val, by omega⟩
        + (∑ t, ∑ v, q v e * μ t v) / d * w ⟨80 + e.val, by omega⟩) := by
  rw [← Finset.sum_add_distrib, ← Finset.sum_add_distrib, Finset.sum_div]
  refine Finset.sum_congr rfl fun e _ => ?_
  have h1 : ∑ t, p t e * ∑ v, μ t v = ∑ t, ∑ v, p t e * μ t v := by simp only [Finset.mul_sum]
  have h2 : (∑ t, ∑ v, x t v) * wv e + (∑ t, ∑ v, μ t v) * bv e = ∑ t, ∑ v, (x t v * wv e + bv e) * μ t v := by
    simp only [Finset.sum_mul, ← Finset.sum_add_distrib]
    refine Finset.sum_congr rfl fun t _ => Finset.sum_congr rfl fun v _ => ?_
    rw [add_mul, mul_right_comm, hμ, mul_comm (bv e)]
  have h3 : ∑ v, (∑ t, μ t v) * q v e = ∑ t, ∑ v, q v e * μ t v := by
    simp only [Finset.sum_mul]; rw [Finset.sum_comm]
    exact Finset.sum_congr rfl fun t _ => Finset.sum_congr rfl fun v _ => mul_comm _ _
  rw [h1, h2, h3]; ring

/-- The count of real observations is a real number. -/
theorem cnt_coe (x : Fin T → Fin V → ℝ) :
    cnt (fun t v => (x t v : EReal)) = ((∑ t, ∑ v, mkR (x t v) : ℝ) : EReal) := by
  unfold cnt; simp only [mk_coe, coe_sum]

/-- The reference's features of real data are real numbers. -/
theorem feat_coe (x : Fin T → Fin V → ℝ) (p : Fin T → Fin 16 → ℝ) (q : Fin V → Fin 16 → ℝ) (wv bv : Fin 16 → ℝ) (k : ℕ) :
    feat (fun t v => (x t v : EReal)) (fun t e => (p t e : EReal)) (fun v e => (q v e : EReal)) (fun e => (wv e : EReal))
        (fun e => (bv e : EReal)) k
      = ((if h : k < 16 then ∑ t, ∑ v, p t ⟨k, h⟩ * mkR (x t v)
          else if h : k - 16 < 16 then ∑ t, ∑ v, (x t v * wv ⟨k - 16, h⟩ + bv ⟨k - 16, h⟩) * mkR (x t v)
          else if h : k - 32 < 16 then ∑ t, ∑ v, q v ⟨k - 32, h⟩ * mkR (x t v)
          else 0 : ℝ) : EReal) := by
  unfold feat
  split_ifs <;> simp only [mk_coe, coe_sum, EReal.coe_mul, EReal.coe_add, EReal.coe_zero]

/-- **The two rows are equal on real data.** -/
theorem kerRow_eq_refRow (x : Fin T → Fin V → ℝ) (p : Fin T → Fin 16 → ℝ) (q : Fin V → Fin 16 → ℝ) (wv bv : Fin 16 → ℝ)
    (w : Fin 96 → ℝ) :
    kerRow (fun t v => (x t v : EReal)) (fun t e => (p t e : EReal)) (fun v e => (q v e : EReal)) (fun e => (wv e : EReal))
        (fun e => (bv e : EReal)) (fun k => (w k : EReal))
      = refRow (fun t v => (x t v : EReal)) (fun t e => (p t e : EReal)) (fun v e => (q v e : EReal))
        (fun e => (wv e : EReal)) (fun e => (bv e : EReal)) (fun k => (w k : EReal)) := by
  unfold kerRow refRow
  simp only [cnt_coe, feat_coe]
  generalize hC : (∑ t, ∑ v, mkR (x t v)) = C
  have hm : max (C : EReal) 1 = ((max C 1 : ℝ) : EReal) :=
    (EReal.coe_strictMono.monotone.map_max (a := C) (b := 1)).symm
  have hd : max C 1 ≠ 0 := (lt_of_lt_of_le one_pos (le_max_right _ _)).ne'
  simp only [hm]
  by_cases hc : (0 : EReal) < (C : EReal)
  · simp only [if_pos hc, mk_coe, ← coe_sum, ← EReal.coe_mul, ← EReal.coe_add, div_coe_of_ne hd]
    refine congrArg _ ?_
    rw [sum96, ← hC, row_real x (fun t v => mkR (x t v)) (fun t v => mul_mkR _) p q wv bv w]
    refine Finset.sum_congr rfl fun e _ => ?_
    have he := e.isLt
    have m0 : e.val % 48 = e.val := Nat.mod_eq_of_lt (by omega)
    have m1 : (16 + e.val) % 48 = 16 + e.val := Nat.mod_eq_of_lt (by omega)
    have m2 : (32 + e.val) % 48 = 32 + e.val := Nat.mod_eq_of_lt (by omega)
    have m3 : (48 + e.val) % 48 = e.val := by omega
    have m4 : (64 + e.val) % 48 = 16 + e.val := by omega
    have m5 : (80 + e.val) % 48 = 32 + e.val := by omega
    have a1 : ¬ 16 + e.val < 16 := by omega
    have a2 : 16 + e.val - 16 = e.val := by omega
    have a3 : ¬ 32 + e.val < 16 := by omega
    have a4 : ¬ 32 + e.val - 16 < 16 := by omega
    have a5 : 32 + e.val - 32 = e.val := by omega
    simp only [m0, m1, m2, m3, m4, m5, a1, a2, a3, a4, a5, he, dif_pos, dif_neg, not_false_eq_true, Fin.eta]
  · simp only [if_neg hc, zero_mul, Finset.sum_const_zero]

end Cert.Seft

end
-- ==== Proof.Lits.lean ====
/-
  The kernel's constant tables: the timescales repeated sixteen times, and the identity matrix the epilogue multiplies
  by; read as extended real numbers.
-/
module

public import Idealize.ShloMosaic.Lib.Pointwise
public import proofs.«01_k».proof.KernelIdeal

@[expose] public section

set_option maxRecDepth 16384

noncomputable section

namespace Cert.Seft.Ker

open Idealize.ShloMosaic

/-- The words of the identity matrix, row by row. -/
theorem eye_word : ∀ r : Fin 128, ∀ c : Fin 128,
    Cert.KernelIdeal.lit2 ⟨128 * r.val + c.val, by omega⟩ = if r = c then 0x3F800000#32 else 0x00000000#32 := by
  decide +kernel

/-- The column of timescales holds timescale `d` at its rows `16 d`, …, `16 d + 15`. -/
theorem ts_word : ∀ d : Fin 8, ∀ b : Fin 16,
    Cert.KernelIdeal.lit1 ⟨16 * d.val + b.val, by omega⟩ = Cert.KernelIdeal.lit0 d := by
  decide +kernel

end Cert.Seft.Ker

end
-- ==== Proof.Blocks.lean ====
/-
  The blocks the kernel's windows read, as the arguments: the observations and the times 512 at a time, everything else
  whole; the two constant tables and the variables' encoding table as numbers.
-/
module

public import Idealize.ShloMosaic.Lib.Pipeline.ValueKit
public import Idealize.ShloMosaic.Lib.Claim
public import proofs.«01_k».proof.Proof.Spec
public import proofs.«01_k».proof.Proof.Lits
public import proofs.«01_k».proof.Proof.Gen.KernelIdeal.Frame

@[expose] public section

set_option maxRecDepth 16384

noncomputable section

namespace Cert.Seft.Ker

open Idealize.ShloMosaic Idealize.ShloMosaic.TcCoe Idealize.SL.Sem
open Cert.KernelIdeal Cert.KernelIdeal.Gen

variable (m : (ℓ : Loc nD τ sig) → Buf (Elt Ideal) ℓ) (c : Dev nD)

/-- The block the two moving windows read at a point is the point's number along the observations. -/
theorem idx : ∀ t : Fin cfg0.N, win0_0.index t = ![0, 0, t.val] ∧ win0_1.index t = ![0, t.val] :=
  (by decide +kernel : ∀ t : Fin grid0.N, _)

/-- Every other window reads its array whole. -/
theorem idxW : ∀ t : Fin cfg0.N, win0_2.index t = ![0, 0] ∧ win0_3.index t = ![0, 0] ∧ win0_4.index t = ![0, 0] ∧ win0_5.index t = ![0, 0] ∧ win0_6.index t = ![0, 0] ∧ win0_7.index t = ![0, 0] ∧ win0_8.index t = ![0, 0] ∧ win0_9.index t = ![0, 0] ∧ win0_10.index t = ![0, 0] ∧ win0_11.index t = ![0, 0] ∧ win0_12.index t = ![0, 0] ∧ win0_13.index t = ![0, 0] ∧ win0_14.index t = ![0, 0] ∧ win0_15.index t = ![0, 0] :=
  (by decide +kernel : ∀ t : Fin grid0.N, _)

/-- There are four points. -/
theorem lt4 (t : Fin cfg0.N) : t.val < 4 := lt_of_lt_of_eq t.isLt N_0

/-- The transposed observations at a batch row, a variable and a time. -/
theorem V_src (b : Fin 16) (v : Fin 72) (r : Fin 2048) :
    V m c main_call0_v1 (ix3 b v r) = m ((c : Thread nD τ).loc main_arg0) (ix3 r b v) := by
  entry_read
  show transpose S16x72x2048 [1, 2, 0] (m ((c : Thread nD τ).loc main_arg0)) _ (ix3 b v r) = _
  pointwise

/-- The transposed times at a batch row. -/
theorem V_times (b : Fin 16) (r : Fin 2048) :
    V m c main_call0_v2 (ix2 b r) = m ((c : Thread nD τ).loc main_arg2) (ix2 r b) := by
  entry_read
  show transpose S16x2048 [1, 0] (m ((c : Thread nD τ).loc main_arg2)) _ (ix2 b r) = _
  pointwise

/-- The transposed weight of the map. -/
theorem V_wmap (k : Fin 96) (n : Fin 128) :
    V m c main_call0_v3 (ix2 k n) = m ((c : Thread nD τ).loc main_arg6) (ix2 n k) := by
  entry_read
  show transpose S96x128 [1, 0] (m ((c : Thread nD τ).loc main_arg6)) _ (ix2 k n) = _
  pointwise

/-- The words of the timescales. -/
theorem lit0_word (d : Fin 8) : Cert.KernelIdeal.lit0 d = tsWord d := by
  revert d; decide +kernel

/-- The timescale of a row of the times' stack. -/
theorem V_ts (d : Fin 8) (b : Fin 16) :
    V m c main_call0_cst_0 (ix2 (⟨16 * d.val + b.val, by omega⟩ : Fin 128) 0) = ts d := by
  entry_read
  show (fun i => FloatOps.ofBits (F := Ideal) FTy.f32 (lit1 (S128x1.rowMajor i))) (ix2 (⟨16 * d.val + b.val, by omega⟩ : Fin 128) 0) = _
  have e : S128x1.rowMajor (ix2 (⟨16 * d.val + b.val, by omega⟩ : Fin 128) 0) = ⟨16 * d.val + b.val, by show _ < 128; omega⟩ := by
    refine Fin.ext ?_
    rw [rowMajor_val2 _ 1 rfl]
    simp
  show FloatOps.ofBits (F := Ideal) FTy.f32 (lit1 (S128x1.rowMajor (ix2 (⟨16 * d.val + b.val, by omega⟩ : Fin 128) 0))) = _
  rw [e]
  exact congrArg (FloatOps.ofBits (F := Ideal) FTy.f32) ((ts_word d b).trans (lit0_word d))

/-- The diagonal table. -/
theorem V_eye (r l : Fin 128) :
    V m c main_call0_cst_1 (ix2 r l) = if r = l then (1 : EReal) else 0 := by
  entry_read
  have e : S128x128.rowMajor (ix2 r l) = ⟨128 * r.val + l.val, by show _ < 16384; omega⟩ := by
    refine Fin.ext ?_
    rw [rowMajor_val2 _ 128 rfl]
    simp [Nat.mul_comm]
  show FloatOps.ofBits (F := Ideal) FTy.f32 (lit2 (S128x128.rowMajor (ix2 r l))) = _
  rw [e]
  refine (congrArg (FloatOps.ofBits (F := Ideal) FTy.f32) (eye_word r l)).trans ?_
  split_ifs
  · exact Ideal.ofBits_one_f32
  · exact Ideal.ofBits_zero_f32

/-- The variables' encoding table as the host computes it. -/
def varTable : FVec Ideal S36x16 .f32 :=
  concatenate S36x16 1 [
    ⟨S36x8, Host.sin (Host.divf (broadcastInDim S36x8 ![0, 1] bcast_S36x1_S36x8_0_1 (broadcastInDim S36x1 ![0] bcast_S36_S36x1_0 (sitofp (F := Ideal) FTy.f32 (iotaInDim S36 32 0)))) (broadcastInDim S36x8 ![0, 1] bcast_S1x8_S36x8_0_1 (broadcastInDim S1x8 ![1] bcast_S8_S1x8_1 (fun i => FloatOps.ofBits (F := Ideal) FTy.f32 (lit0 (S8.rowMajor i))))))⟩,
    ⟨S36x8, Host.cos (Host.divf (broadcastInDim S36x8 ![0, 1] bcast_S36x1_S36x8_0_1 (broadcastInDim S36x1 ![0] bcast_S36_S36x1_0 (sitofp (F := Ideal) FTy.f32 (iotaInDim S36 32 0)))) (broadcastInDim S36x8 ![0, 1] bcast_S1x8_S36x8_0_1 (broadcastInDim S1x8 ![1] bcast_S8_S1x8_1 (fun i => FloatOps.ofBits (F := Ideal) FTy.f32 (lit0 (S8.rowMajor i))))))⟩]
    concatenates_S36x8_S36x8_S36x16_d1

/-- The table's entry is the variable's number encoded. -/
theorem varTable_at (v : Fin 36) (e : Fin 16) : varTable (ix2 v e) = enc (varNum v) e := by
  have e8 : ∀ d : Fin 8, S8.rowMajor (ix1 d) = d := fun d => Fin.ext (by rw [rowMajor_val1]; simp)
  pointwise [varTable]
  unfold enc varNum
  split_ifs with h
  · exact congrArg (fun r => Ideal.sin (Ideal.div _ (Ideal.ofBits .f32 r))) ((congrArg lit0 (e8 ⟨e.val, h⟩)).trans (lit0_word ⟨e.val, h⟩))
  all_goals exact congrArg (fun r => Ideal.cos (Ideal.div _ (Ideal.ofBits .f32 r))) ((congrArg lit0 (e8 ⟨e.val - 8, by omega⟩)).trans (lit0_word ⟨e.val - 8, by omega⟩))

/-- The variables' encoding table. -/
theorem V_var (v : Fin 36) (e : Fin 16) :
    V m c main_call0_v11 (ix2 v e) = enc (varNum v) e := by
  entry_read
  exact varTable_at v e

/-- The block of the observations at a point: 512 times of them. -/
theorem blk_src (t : Fin cfg0.N) (b : Fin 16) (v : Fin 72) (j : Fin 512) :
    iblk m c 0 t (ix3 b v j) = m ((c : Thread nD τ).loc main_arg0) (ix3 (⟨512 * t.val + j.val, by have := lt4 t; omega⟩ : Fin 2048) b v) := by
  have := lt4 t
  refine Eq.trans ?_ (V_src m c b v _)
  blk_ext! [iblk, idx t]

/-- The block of the times at a point: 512 of them. -/
theorem blk_times (t : Fin cfg0.N) (b : Fin 16) (j : Fin 512) :
    iblk m c 1 t (ix2 b j) = m ((c : Thread nD τ).loc main_arg2) (ix2 (⟨512 * t.val + j.val, by have := lt4 t; omega⟩ : Fin 2048) b) := by
  have := lt4 t
  refine Eq.trans ?_ (V_times m c b _)
  blk_ext! [iblk, idx t]

/-- The static values' block is their array. -/
theorem blk_static (t : Fin cfg0.N) (b : Fin 16) (k : Fin 9) :
    iblk m c 2 t (ix2 b k) = m ((c : Thread nD τ).loc main_arg1) (ix2 b k) := by
  blk_point [iblk, V, idxW t]

/-- The value layer's weight, laid out as a row. -/
theorem blk_wv (t : Fin cfg0.N) (e : Fin 16) :
    iblk m c 6 t (ix2 0 e) = m ((c : Thread nD τ).loc main_arg4) (ix2 e 0) := by
  blk_point [iblk, V, idxW t]

/-- The value layer's bias, laid out as a row. -/
theorem blk_bv (t : Fin cfg0.N) (e : Fin 16) :
    iblk m c 7 t (ix2 0 e) = m ((c : Thread nD τ).loc main_arg5) (ix1 e) := by
  blk_point [iblk, V, idxW t]

/-- The map's weight, transposed. -/
theorem blk_wmap (t : Fin cfg0.N) (k : Fin 96) (n : Fin 128) :
    iblk m c 8 t (ix2 k n) = m ((c : Thread nD τ).loc main_arg6) (ix2 n k) := by
  refine Eq.trans ?_ (V_wmap m c k n)
  blk_ext! [iblk, idxW t]

/-- The map's bias, laid out as a row. -/
theorem blk_bmap (t : Fin cfg0.N) (n : Fin 128) :
    iblk m c 9 t (ix2 0 n) = m ((c : Thread nD τ).loc main_arg7) (ix1 n) := by
  blk_point [iblk, V, idxW t]

/-- The static layer's weight. -/
theorem blk_we (t : Fin cfg0.N) (e : Fin 16) (k : Fin 9) :
    iblk m c 10 t (ix2 e k) = m ((c : Thread nD τ).loc main_arg8) (ix2 e k) := by
  blk_point [iblk, V, idxW t]

/-- The static layer's bias, laid out as a row. -/
theorem blk_be (t : Fin cfg0.N) (e : Fin 16) :
    iblk m c 11 t (ix2 0 e) = m ((c : Thread nD τ).loc main_arg9) (ix1 e) := by
  blk_point [iblk, V, idxW t]

/-- The hidden layer's weight. -/
theorem blk_w1 (t : Fin cfg0.N) (r k : Fin 144) :
    iblk m c 12 t (ix2 r k) = m ((c : Thread nD τ).loc main_arg10) (ix2 r k) := by
  blk_point [iblk, V, idxW t]

/-- The hidden layer's bias, laid out as a row. -/
theorem blk_b1 (t : Fin cfg0.N) (e : Fin 144) :
    iblk m c 13 t (ix2 0 e) = m ((c : Thread nD τ).loc main_arg11) (ix1 e) := by
  blk_point [iblk, V, idxW t]

/-- The last layer's weight. -/
theorem blk_w2 (t : Fin cfg0.N) (r : Fin 2) (k : Fin 144) :
    iblk m c 14 t (ix2 r k) = m ((c : Thread nD τ).loc main_arg12) (ix2 r k) := by
  blk_point [iblk, V, idxW t]

/-- The last layer's bias, laid out as a row. -/
theorem blk_b2 (t : Fin cfg0.N) (e : Fin 2) :
    iblk m c 15 t (ix2 0 e) = m ((c : Thread nD τ).loc main_arg13) (ix1 e) := by
  blk_point [iblk, V, idxW t]

/-- The column of timescales: timescale `d` at the rows of its sixteen samples. -/
theorem blk_ts (t : Fin cfg0.N) (d : Fin 8) (b : Fin 16) :
    iblk m c 3 t (ix2 (⟨16 * d.val + b.val, by omega⟩ : Fin 128) 0) = ts d := by
  refine Eq.trans ?_ (V_ts m c d b)
  blk_ext! [iblk, idxW t]

/-- The variables' encoding table. -/
theorem blk_var (t : Fin cfg0.N) (v : Fin 36) (e : Fin 16) :
    iblk m c 4 t (ix2 v e) = enc (varNum v) e := by
  refine Eq.trans ?_ (V_var m c v e)
  blk_ext! [iblk, idxW t]

/-- The diagonal table. -/
theorem blk_eye (t : Fin cfg0.N) (r l : Fin 128) :
    iblk m c 5 t (ix2 r l) = if r = l then (1 : EReal) else 0 := by
  refine Eq.trans ?_ (V_eye m c r l)
  blk_ext! [iblk, idxW t]

end Cert.Seft.Ker

end
-- ==== Proof.Payload.lean ====
/-
  What the kernel's payloads (the values its body stores, named by the generated skeleton) are at an index, over the
  extended reals.  Each theorem reads one payload at variable coordinates; nothing here mentions the grid.
-/
module

public import proofs.«01_k».proof.Proof.Spec
public import proofs.«01_k».proof.Proof.Gen.KernelIdeal.Skeleton

@[expose] public section

set_option maxRecDepth 16384

noncomputable section

namespace Cert.Seft.Ker

open Idealize.ShloMosaic
open Cert.KernelIdeal Cert.KernelIdeal.Gen

/-- The mask payload: 1 where the value is not zero, else 0. -/
theorem mask_at (X : FVec Ideal S16x72x512 .f32) (b : Fin 16) (v : Fin 36) (j : Fin 512) :
    k0_pay18 (F := Ideal) X (ix3 b v j) = mk (X (ix3 b ⟨v.val, by omega⟩ j)) := by
  pointwise [k0_pay18, k0_pay17]
  by_cases h : X (ix3 b ⟨v.val, by omega⟩ j) = 0 <;> simp [mk, h, FloatOps.sitofp]

/-- The count scratch after a block: what it held plus the block's mask. -/
theorem pay19_at (X : FVec Ideal S16x72x512 .f32) (a : FVec Ideal S16x36x512 .f32) (b : Fin 16) (v : Fin 36) (j : Fin 512) :
    k0_pay19 (F := Ideal) X a (ix3 b v j) = a (ix3 b v j) + mk (X (ix3 b ⟨v.val, by omega⟩ j)) := by
  rw [← mask_at]; pointwise [k0_pay19]

/-- The value scratch after a block: what it held plus the block's values, summed over the variables. -/
theorem pay20_at (X : FVec Ideal S16x72x512 .f32) (a : FVec Ideal S16x512 .f32) (b : Fin 16) (j : Fin 512) :
    k0_pay20 (F := Ideal) X a (ix2 b j) = a (ix2 b j) + ∑ v : Fin 36, X (ix3 b ⟨v.val, by omega⟩ j) := by
  pointwise [k0_pay20, k0_pay17]

set_option maxHeartbeats 1600000 in
/-- The observations' counts, repeated once per timescale. -/
theorem pay22_at (X : FVec Ideal S16x72x512 .f32) (d : Fin 8) (b : Fin 16) (j : Fin 512) :
    k0_pay22 (F := Ideal) X (ix2 (⟨16 * d.val + b.val, by omega⟩ : Fin 128) j) = ∑ v : Fin 36, mk (X (ix3 b ⟨v.val, by omega⟩ j)) := by
  have h : ∀ v : Fin 36, mk (X (ix3 b ⟨v.val, by omega⟩ j)) = k0_pay18 (F := Ideal) X (ix3 b v j) := fun v => (mask_at X b v j).symm
  simp only [h]
  generalize hM : k0_pay18 (F := Ideal) X = M
  unfold k0_pay22
  rw [hM]
  pointwise
  split_ifs <;> exact Finset.sum_congr rfl fun v _ => congrArg (fun z => M (ix3 z v j)) (Fin.ext (by simp only; omega))

/-- The scaled times, repeated once per timescale: row `16 d + b` is sample `b`'s times over that row's timescale. -/
theorem pay21_at (X : FVec Ideal S16x512 .f32) (s : FVec Ideal S128x1 .f32) (d : Fin 8) (b : Fin 16) (j : Fin 512) :
    k0_pay21 (F := Ideal) X s (ix2 (⟨16 * d.val + b.val, by omega⟩ : Fin 128) j)
      = Ideal.div (X (ix2 b j)) (s (ix2 (⟨16 * d.val + b.val, by omega⟩ : Fin 128) 0)) := by
  pointwise [k0_pay21]
  refine congrArg (fun z => Ideal.div z _) ?_
  split_ifs <;> exact congrArg (fun z => X (ix2 z j)) (Fin.ext (by simp only; omega))

/-- The sine scratch after a block: what it held plus the sine of each scaled time, times the observations' count. -/
theorem sin_at (X : FVec Ideal S16x72x512 .f32) (t : FVec Ideal S16x512 .f32) (s : FVec Ideal S128x1 .f32)
    (a : FVec Ideal S128x512 .f32) (d : Fin 8) (b : Fin 16) (j : Fin 512) :
    k0_pay1 (F := Ideal) a (k0_pay23 X t s) (ix2 (⟨16 * d.val + b.val, by omega⟩ : Fin 128) j)
      = a (ix2 (⟨16 * d.val + b.val, by omega⟩ : Fin 128) j)
        + Ideal.sin (Ideal.div (t (ix2 b j)) (s (ix2 (⟨16 * d.val + b.val, by omega⟩ : Fin 128) 0)))
          * ∑ v : Fin 36, mk (X (ix3 b ⟨v.val, by omega⟩ j)) := by
  rw [← pay21_at, ← pay22_at (d := d)]; pointwise [k0_pay1, k0_pay23]

/-- The cosine scratch after a block: what it held plus the cosine of each scaled time, times the observations' count. -/
theorem cos_at (X : FVec Ideal S16x72x512 .f32) (t : FVec Ideal S16x512 .f32) (s : FVec Ideal S128x1 .f32)
    (a : FVec Ideal S128x512 .f32) (d : Fin 8) (b : Fin 16) (j : Fin 512) :
    k0_pay2 (F := Ideal) (k0_pay21 t s) (k0_pay22 X) a (ix2 (⟨16 * d.val + b.val, by omega⟩ : Fin 128) j)
      = a (ix2 (⟨16 * d.val + b.val, by omega⟩ : Fin 128) j)
        + Ideal.cos (Ideal.div (t (ix2 b j)) (s (ix2 (⟨16 * d.val + b.val, by omega⟩ : Fin 128) 0)))
          * ∑ v : Fin 36, mk (X (ix3 b ⟨v.val, by omega⟩ j)) := by
  rw [← pay21_at, ← pay22_at (d := d)]; pointwise [k0_pay2]

/-- The four scratch resets are zero everywhere. -/
theorem pay13_at (i : S128x512.Idx) : k0_pay13 (F := Ideal) i = 0 := by pointwise [k0_pay13]

/-- The cosine scratch is reset to zero. -/
theorem pay14_at (i : S128x512.Idx) : k0_pay14 (F := Ideal) i = 0 := by pointwise [k0_pay14]

/-- The count scratch is reset to zero. -/
theorem pay15_at (i : S16x36x512.Idx) : k0_pay15 (F := Ideal) i = 0 := by pointwise [k0_pay15]

/-- The value scratch is reset to zero. -/
theorem pay16_at (i : S16x512.Idx) : k0_pay16 (F := Ideal) i = 0 := by pointwise [k0_pay16]

/-! ## The epilogue -/

/-- The per-variable counts: the count scratch summed over its lanes. -/
theorem pay4_at (c : FVec Ideal S16x36x512 .f32) (b : Fin 16) (v : Fin 36) :
    k0_pay4 (F := Ideal) c (ix2 b v) = ∑ j : Fin 512, c (ix3 b v j) := by pointwise [k0_pay4]

/-- The count of a sample's observations. -/
theorem pay5_at (c : FVec Ideal S16x36x512 .f32) (b : Fin 16) :
    k0_pay5 (F := Ideal) c (ix2 b 0) = ∑ v : Fin 36, ∑ j : Fin 512, c (ix3 b v j) := by pointwise [k0_pay5, k0_pay4]

/-- The sum of a sample's values. -/
theorem pay6_at (f : FVec Ideal S16x512 .f32) (b : Fin 16) :
    k0_pay6 (F := Ideal) f (ix2 b 0) = ∑ j : Fin 512, f (ix2 b j) := by pointwise [k0_pay6]

/-- The denominator: the count, at least one. -/
theorem pay7_at (c : FVec Ideal S16x36x512 .f32) (b : Fin 16) :
    k0_pay7 (F := Ideal) c (ix2 b 0) = max (∑ v : Fin 36, ∑ j : Fin 512, c (ix3 b v j)) 1 := by
  rw [← pay5_at]; pointwise [k0_pay7]

/-- The summed variables' encoding: the counts times the encoding table. -/
theorem pay8_at (c : FVec Ideal S16x36x512 .f32) (q : FVec Ideal S36x16 .f32) (b : Fin 16) (e : Fin 16) :
    k0_pay8 (F := Ideal) c q (ix2 b e) = ∑ v : Fin 36, (∑ j : Fin 512, c (ix3 b v j)) * q (ix2 v e) := by
  pointwise [k0_pay8, k0_pay4]

/-- One mapped feature from the epilogue's values: the quotient (zero for a sample without observations) plus the bias. -/
theorem pay10_at (v49 v52 v54 : FVec Ideal S16x1 .f32) (v57 v83 : FVec Ideal S16x16 .f32) (v84 v86 : FVec Ideal S48x128 .f32)
    (v93 v96 : FVec Ideal S1x16 .f32) (v112 : FVec Ideal S1x128 .f32) (b : Fin 16) (n : Fin 128) :
    k0_pay10 (F := Ideal) v49 v52 v54 v57 v83 v84 v86 v93 v96 v112 (ix2 b n)
      = (if 0 < v49 (ix2 b 0) then
          Ideal.div
            ((∑ e : Fin 16, v83 (ix2 e b) * (v84 (ix2 ⟨e.val, by omega⟩ n) + v86 (ix2 ⟨e.val, by omega⟩ n))
              + ∑ e : Fin 16, (v52 (ix2 b 0) * v93 (ix2 0 e) + v49 (ix2 b 0) * v96 (ix2 0 e))
                * (v84 (ix2 ⟨16 + e.val, by omega⟩ n) + v86 (ix2 ⟨16 + e.val, by omega⟩ n)))
              + ∑ e : Fin 16, v57 (ix2 b e) * (v84 (ix2 ⟨32 + e.val, by omega⟩ n) + v86 (ix2 ⟨32 + e.val, by omega⟩ n)))
            (v54 (ix2 b 0))
        else 0) + v112 (ix2 0 n) := by
  pointwise [k0_pay10]
  simp only [Finset.univ_unique, Finset.sum_singleton, Fin.default_eq_zero, Fin.isValue]

/-- The stored output, of one sample. -/
theorem out_at (A : FVec Ideal S16x128 .f32) (st We : FVec Ideal S16x9 .f32) (be : FVec Ideal S1x16 .f32)
    (W1 : FVec Ideal S144x144 .f32) (b1 : FVec Ideal S1x144 .f32) (W2 : FVec Ideal S2x144 .f32) (b2 : FVec Ideal S1x2 .f32)
    (b : Fin 16) (n : Fin 2) :
    k0_pay3 (F := Ideal) A (k0_pay11 st We) (k0_pay12 be) W1 b1 W2 b2 (ix2 b n)
      = tailRow (fun k => A (ix2 b k)) (fun q => st (ix2 b q)) (fun e q => We (ix2 e q)) (fun e => be (ix2 0 e))
          (fun k l => W1 (ix2 k l)) (fun k => b1 (ix2 0 k)) (fun n k => W2 (ix2 n k)) (fun n => b2 (ix2 0 n)) n := by
  unfold tailRow
  pointwise [k0_pay3, k0_pay11, k0_pay12]

end Cert.Seft.Ker

end
-- ==== Proof.Phases.lean ====
/-
  The epilogue's turn of the two phase accumulators: the product with the identity matrix moves the sums over the lanes
  from rows to columns, and sixteen slices of it, stacked, are the sample-by-sample sums of sines and cosines.
-/
module

public import proofs.«01_k».proof.Proof.Spec
public import Idealize.ShloMosaic.Lib.Pipeline.ValueKit
public import proofs.«01_k».proof.Proof.Gen.KernelIdeal.Skeleton

@[expose] public section

set_option maxRecDepth 16384

noncomputable section

namespace Cert.Seft.Ker

open Idealize.ShloMosaic
open Cert.KernelIdeal Cert.KernelIdeal.Gen

/-- A sum against one column of the identity matrix is the entry at that column. -/
theorem sum_mul_eye (f : Fin 128 → EReal) (E : FVec Ideal S128x128 .f32)
    (hE : ∀ r l : Fin 128, E (ix2 r l) = if r = l then (1 : EReal) else 0) (l : Fin 128) :
    ∑ k : Fin 128, f k * E (ix2 k l) = f l := by
  simp only [hE, mul_ite, mul_one, mul_zero, Finset.sum_ite_eq', Finset.mem_univ, if_true]

/-- The lane sums of the two accumulators as two columns, turned into two rows by the identity matrix. -/
def turned (s c : FVec Ideal S128x512 .f32) (E : FVec Ideal S128x128 .f32) : FVec Ideal S2x128 .f32 :=
  matmul dot_S128x2_S128x128_S2x128_0_0_1_1_n_n (some .fp32)
    (concatenate S128x2 1
      [⟨S128x1, shapeCast S128x1 (multiReduction .add [1] S128 s 0x00000000#32 reduces_S128x512_S128 (.inl rfl) rfl) shapeCasts_S128_S128x1⟩,
       ⟨S128x1, shapeCast S128x1 (multiReduction .add [1] S128 c 0x00000000#32 reduces_S128x512_S128 (.inl rfl) rfl) shapeCasts_S128_S128x1⟩]
      concatenates_S128x1_S128x1_S128x2_d1) E (constant S2x128 .f32 0x00000000#32)

/-- Sixteen slices of two rows, stacked: eight of the first row, then eight of the second. -/
def stack (v : FVec Ideal S2x128 .f32) : FVec Ideal S16x16 .f32 :=
  concatenate S16x16 0 [
    ⟨S1x16, extractStridedSlice S1x16 ![0, 0] v slices_S2x128_o0_0_S1x16⟩,
    ⟨S1x16, extractStridedSlice S1x16 ![0, 16] v slices_S2x128_o0_16_S1x16⟩,
    ⟨S1x16, extractStridedSlice S1x16 ![0, 32] v slices_S2x128_o0_32_S1x16⟩,
    ⟨S1x16, extractStridedSlice S1x16 ![0, 48] v slices_S2x128_o0_48_S1x16⟩,
    ⟨S1x16, extractStridedSlice S1x16 ![0, 64] v slices_S2x128_o0_64_S1x16⟩,
    ⟨S1x16, extractStridedSlice S1x16 ![0, 80] v slices_S2x128_o0_80_S1x16⟩,
    ⟨S1x16, extractStridedSlice S1x16 ![0, 96] v slices_S2x128_o0_96_S1x16⟩,
    ⟨S1x16, extractStridedSlice S1x16 ![0, 112] v slices_S2x128_o0_112_S1x16⟩,
    ⟨S1x16, extractStridedSlice S1x16 ![1, 0] v slices_S2x128_o1_0_S1x16⟩,
    ⟨S1x16, extractStridedSlice S1x16 ![1, 16] v slices_S2x128_o1_16_S1x16⟩,
    ⟨S1x16, extractStridedSlice S1x16 ![1, 32] v slices_S2x128_o1_32_S1x16⟩,
    ⟨S1x16, extractStridedSlice S1x16 ![1, 48] v slices_S2x128_o1_48_S1x16⟩,
    ⟨S1x16, extractStridedSlice S1x16 ![1, 64] v slices_S2x128_o1_64_S1x16⟩,
    ⟨S1x16, extractStridedSlice S1x16 ![1, 80] v slices_S2x128_o1_80_S1x16⟩,
    ⟨S1x16, extractStridedSlice S1x16 ![1, 96] v slices_S2x128_o1_96_S1x16⟩,
    ⟨S1x16, extractStridedSlice S1x16 ![1, 112] v slices_S2x128_o1_112_S1x16⟩]
    concatenates_S1x16_S1x16_S1x16_S1x16_S1x16_S1x16_S1x16_S1x16_S1x16_S1x16_S1x16_S1x16_S1x16_S1x16_S1x16_S1x16_S16x16_d0

/-- The payload is the stacked slices of the turned sums. -/
theorem pay9_eq (s c : FVec Ideal S128x512 .f32) (E : FVec Ideal S128x128 .f32) :
    k0_pay9 (F := Ideal) s c E = stack (turned s c E) := rfl

/-- The turned sums: row 0 holds the first accumulator's lane sums, row 1 the second's. -/
theorem turned_at (s c : FVec Ideal S128x512 .f32) (E : FVec Ideal S128x128 .f32)
    (hE : ∀ r l : Fin 128, E (ix2 r l) = if r = l then (1 : EReal) else 0) (a : Fin 2) (l : Fin 128) :
    turned s c E (ix2 a l) = if a.val < 1 then ∑ j : Fin 512, s (ix2 l j) else ∑ j : Fin 512, c (ix2 l j) := by
  pointwise [turned]
  by_cases h : a.val < 1
  · simp only [h, ↓reduceDIte, ↓reduceIte]; exact sum_mul_eye _ E hE l
  · simp only [h, ↓reduceDIte, ↓reduceIte]; exact sum_mul_eye _ E hE l

set_option maxHeartbeats 3200000 in
/-- The stacked slices at an index. -/
theorem stack_at (v : FVec Ideal S2x128 .f32) (e b : Fin 16) :
    stack v (ix2 e b) = if h : e.val < 8 then v (ix2 0 ⟨16 * e.val + b.val, by omega⟩)
      else v (ix2 1 ⟨16 * (e.val - 8) + b.val, by omega⟩) := by
  unfold stack
  concat_tiles x h
  all_goals
    replace h : e.val = _ := h
    replace h1 : (x 1).val = b.val := h1
    simp only [h, ↓reduceDIte, Nat.reduceLT, Nat.reduceSub, Nat.reduceMul]
    pointwise
    refine congrArg v ((ix2_inj ..).2 ⟨?_, Fin.ext ?_⟩)
    · apply Fin.ext; simp only [h0]
    · simp only [h1]

/-- The stacked phase sums: rows below 8 the sines of timescale `e`, the others the cosines of timescale `e - 8`. -/
theorem pay9_at (s c : FVec Ideal S128x512 .f32) (E : FVec Ideal S128x128 .f32)
    (hE : ∀ r l : Fin 128, E (ix2 r l) = if r = l then (1 : EReal) else 0) (e b : Fin 16) :
    k0_pay9 (F := Ideal) s c E (ix2 e b)
      = if h : e.val < 8 then ∑ j : Fin 512, s (ix2 (⟨16 * e.val + b.val, by omega⟩ : Fin 128) j)
        else ∑ j : Fin 512, c (ix2 (⟨16 * (e.val - 8) + b.val, by omega⟩ : Fin 128) j) := by
  rw [pay9_eq, stack_at]
  by_cases h : e.val < 8
  · rw [dif_pos h, dif_pos h]; exact turned_at s c E hE 0 _
  · rw [dif_neg h, dif_neg h]; exact turned_at s c E hE 1 _

end Cert.Seft.Ker

end
-- ==== Proof.Points.lean ====
/-
  The kernel's four scratch buffers point by point: reset and filled at the first point, added to at each later one; and the
  result array written at the last point from what they hold there.
-/
module

public import Idealize.ShloMosaic.Lib.Pipeline.ReadBack
public import proofs.«01_k».proof.Proof.Blocks
public import proofs.«01_k».proof.Proof.Payload
public import proofs.«01_k».proof.Proof.Phases
public import proofs.«01_k».proof.Proof.Gen.KernelIdeal.Value

@[expose] public section

set_option maxRecDepth 16384

noncomputable section

namespace Cert.Seft.Ker

open Idealize.ShloMosaic Idealize.ShloMosaic.TcCoe Idealize.SL.Sem
open Cert.KernelIdeal Cert.KernelIdeal.Gen

variable (m : (ℓ : Loc nD τ sig) → Buf (Elt Ideal) ℓ) (c : Dev nD)

/-! ## One point -/

/-- The sine scratch after the first point. -/
theorem sin_reset (t : Fin cfg0.N) (h0 : t.val % 4 = 0) :
    (outsAt0 m c t.val t.isLt).2.1 = k0_pay1 (F := Ideal) ((k0_pay13 (F := Ideal))) (k0_pay23 (iblk m c 0 t) (iblk m c 1 t) (iblk m c 3 t)) := by
  rw [outsAt0_A m c t h0 (by omega)]
  frame_out

/-- The sine scratch after a later point. -/
theorem sin_step (t : Fin cfg0.N) (h0 : ¬ t.val % 4 = 0) :
    (outsAt0 m c t.val t.isLt).2.1 = k0_pay1 (F := Ideal) ((outsAt0 m c (t.val - 1) (by have := t.isLt; omega)).2.1) (k0_pay23 (iblk m c 0 t) (iblk m c 1 t) (iblk m c 3 t)) := by
  by_cases h1 : t.val % 4 = 3
  · rw [outsAt0_C m c t h0 h1]
    frame_out
    simp only [read_unread_whole]
  · rw [outsAt0_B m c t h0 h1]
    frame_out
    simp only [read_unread_whole]

/-- The cosine scratch after the first point. -/
theorem cos_reset (t : Fin cfg0.N) (h0 : t.val % 4 = 0) :
    (outsAt0 m c t.val t.isLt).2.2.1 = k0_pay2 (F := Ideal) (k0_pay21 (iblk m c 1 t) (iblk m c 3 t)) (k0_pay22 (iblk m c 0 t)) ((k0_pay14 (F := Ideal))) := by
  rw [outsAt0_A m c t h0 (by omega)]
  frame_out

/-- The cosine scratch after a later point. -/
theorem cos_step (t : Fin cfg0.N) (h0 : ¬ t.val % 4 = 0) :
    (outsAt0 m c t.val t.isLt).2.2.1 = k0_pay2 (F := Ideal) (k0_pay21 (iblk m c 1 t) (iblk m c 3 t)) (k0_pay22 (iblk m c 0 t)) ((outsAt0 m c (t.val - 1) (by have := t.isLt; omega)).2.2.1) := by
  by_cases h1 : t.val % 4 = 3
  · rw [outsAt0_C m c t h0 h1]
    frame_out
    simp only [read_unread_whole]
  · rw [outsAt0_B m c t h0 h1]
    frame_out
    simp only [read_unread_whole]

/-- The count scratch after the first point. -/
theorem cnt_reset (t : Fin cfg0.N) (h0 : t.val % 4 = 0) :
    (outsAt0 m c t.val t.isLt).2.2.2.1 = k0_pay19 (F := Ideal) (iblk m c 0 t) ((k0_pay15 (F := Ideal))) := by
  rw [outsAt0_A m c t h0 (by omega)]
  frame_out

/-- The count scratch after a later point. -/
theorem cnt_step (t : Fin cfg0.N) (h0 : ¬ t.val % 4 = 0) :
    (outsAt0 m c t.val t.isLt).2.2.2.1 = k0_pay19 (F := Ideal) (iblk m c 0 t) ((outsAt0 m c (t.val - 1) (by have := t.isLt; omega)).2.2.2.1) := by
  by_cases h1 : t.val % 4 = 3
  · rw [outsAt0_C m c t h0 h1]
    frame_out
    simp only [read_unread_whole]
  · rw [outsAt0_B m c t h0 h1]
    frame_out
    simp only [read_unread_whole]

/-- The value scratch after the first point. -/
theorem val_reset (t : Fin cfg0.N) (h0 : t.val % 4 = 0) :
    (outsAt0 m c t.val t.isLt).2.2.2.2 = k0_pay20 (F := Ideal) (iblk m c 0 t) ((k0_pay16 (F := Ideal))) := by
  rw [outsAt0_A m c t h0 (by omega)]
  frame_out

/-- The value scratch after a later point. -/
theorem val_step (t : Fin cfg0.N) (h0 : ¬ t.val % 4 = 0) :
    (outsAt0 m c t.val t.isLt).2.2.2.2 = k0_pay20 (F := Ideal) (iblk m c 0 t) ((outsAt0 m c (t.val - 1) (by have := t.isLt; omega)).2.2.2.2) := by
  by_cases h1 : t.val % 4 = 3
  · rw [outsAt0_C m c t h0 h1]
    frame_out
    simp only [read_unread_whole]
  · rw [outsAt0_B m c t h0 h1]
    frame_out
    simp only [read_unread_whole]

/-! ## The result at the last point -/

/-- What the last point writes, from what the four scratch buffers hold there. -/
theorem out_last (t : Fin cfg0.N) (h0 : t.val % 4 = 3) :
    (outsAt0 m c t.val t.isLt).1
      = k0_pay3 (F := Ideal)
          (k0_pay10 (k0_pay5 (outsAt0 m c t.val t.isLt).2.2.2.1) (k0_pay6 (outsAt0 m c t.val t.isLt).2.2.2.2)
            (k0_pay7 (outsAt0 m c t.val t.isLt).2.2.2.1) (k0_pay8 (outsAt0 m c t.val t.isLt).2.2.2.1 (iblk m c 4 t))
            (k0_pay9 (outsAt0 m c t.val t.isLt).2.1 (outsAt0 m c t.val t.isLt).2.2.1 (iblk m c 5 t))
            (View.ld (iblk m c 8 t) (Rect.unit (s := S96x128) ![0, 0] ![48, 128] inb_S96x128_S48x128_0_0))
            (View.ld (iblk m c 8 t) (Rect.unit (s := S96x128) ![48, 0] ![48, 128] inb_S96x128_S48x128_48_0))
            (iblk m c 6 t) (iblk m c 7 t) (iblk m c 9 t))
          (k0_pay11 (iblk m c 2 t) (iblk m c 10 t)) (k0_pay12 (iblk m c 11 t)) (iblk m c 12 t) (iblk m c 13 t)
          (iblk m c 14 t) (iblk m c 15 t) := by
  have h : ¬ t.val % 4 = 0 := by omega
  rw [sin_step m c t h, cos_step m c t h, cnt_step m c t h, val_step m c t h, outsAt0_C m c t h h0]
  frame_out
  simp only [read_unread_whole]
  rfl

end Cert.Seft.Ker

end
-- ==== Proof.KernelValue.lean ====
/-
  The kernel's result: the four scratch buffers at the last point as sums over all times, and the result array at an index as
  the map's and the later layers' formula over the arguments.
-/
module

public import proofs.«01_k».proof.Proof.Points

@[expose] public section

set_option maxRecDepth 16384

noncomputable section

namespace Cert.Seft.Ker

open Idealize.ShloMosaic Idealize.ShloMosaic.TcCoe Idealize.SL.Sem
open Cert.KernelIdeal Cert.KernelIdeal.Gen

variable (m : (ℓ : Loc nD τ sig) → Buf (Elt Ideal) ℓ) (c : Dev nD)

/-- The value of variable `v` of sample `b` at time `r`. -/
def srcAt (b : Fin 16) (r : Fin 2048) (v : Fin 36) : EReal :=
  m ((c : Thread nD τ).loc main_arg0) (ix3 r b (⟨v.val, by omega⟩ : Fin 72))

/-- The `r`th time of sample `b`. -/
def timeAt (b : Fin 16) (r : Fin 2048) : EReal := m ((c : Thread nD τ).loc main_arg2) (ix2 r b)

/-- Lane `j` of point `p` among the times. -/
def lane (p : Fin cfg0.N) (j : Fin 512) : Fin 2048 := ⟨512 * p.val + j.val, by have := lt4 p; omega⟩

/-- A sum over the points and their lanes is the sum over the times. -/
theorem sum_lanes (F : Fin 2048 → EReal) : ∑ j : Fin 512, ∑ p : Fin cfg0.N, F (lane p j) = ∑ r : Fin 2048, F r := by
  rw [Finset.sum_comm, Fin.sum_univ_tiles 4 512 rfl F]
  exact Fintype.sum_equiv (finCongr N_0) _ _ fun p => Finset.sum_congr rfl fun j _ =>
    congrArg F (Fin.ext (by simp [lane, Nat.mul_comm]))

/-! ## The scratch buffers at the last point -/

/-- The sine scratch at the last point. -/
theorem sin_last (t : Fin cfg0.N) (ht : t.val + 1 = cfg0.N) (d : Fin 8) (b : Fin 16) (j : Fin 512) :
    (outsAt0 m c t.val t.isLt).2.1 (ix2 (⟨16 * d.val + b.val, by omega⟩ : Fin 128) j) = ∑ p : Fin cfg0.N, Ideal.sin (Ideal.div (timeAt m c b (lane p j)) (ts d)) * ∑ v : Fin 36, mk (srcAt m c b (lane p j) v) := by
  refine (Pipeline.eq_sum_fin_of_reset_step_apply_last (N := cfg0.N)
    (fun n h (_ : Unit) => (outsAt0 m c n h).2.1 (ix2 (⟨16 * d.val + b.val, by omega⟩ : Fin 128) j)) 4 (fun _ => 0)
    (fun p _ => Ideal.sin (Ideal.div (timeAt m c b (lane p j)) (ts d)) * ∑ v : Fin 36, mk (srcAt m c b (lane p j) v)) ?_ ?_ (le_of_eq N_0) t ht ()).trans (zero_add _)
  · intro p h _
    rw [sin_reset m c p h, sin_at, pay13_at, blk_ts, blk_times]
    simp only [blk_src]
    rfl
  · intro p h _
    rw [sin_step m c p h, sin_at, blk_ts, blk_times]
    simp only [blk_src]
    rfl

/-- The cosine scratch at the last point. -/
theorem cos_last (t : Fin cfg0.N) (ht : t.val + 1 = cfg0.N) (d : Fin 8) (b : Fin 16) (j : Fin 512) :
    (outsAt0 m c t.val t.isLt).2.2.1 (ix2 (⟨16 * d.val + b.val, by omega⟩ : Fin 128) j) = ∑ p : Fin cfg0.N, Ideal.cos (Ideal.div (timeAt m c b (lane p j)) (ts d)) * ∑ v : Fin 36, mk (srcAt m c b (lane p j) v) := by
  refine (Pipeline.eq_sum_fin_of_reset_step_apply_last (N := cfg0.N)
    (fun n h (_ : Unit) => (outsAt0 m c n h).2.2.1 (ix2 (⟨16 * d.val + b.val, by omega⟩ : Fin 128) j)) 4 (fun _ => 0)
    (fun p _ => Ideal.cos (Ideal.div (timeAt m c b (lane p j)) (ts d)) * ∑ v : Fin 36, mk (srcAt m c b (lane p j) v)) ?_ ?_ (le_of_eq N_0) t ht ()).trans (zero_add _)
  · intro p h _
    rw [cos_reset m c p h, cos_at, pay14_at, blk_ts, blk_times]
    simp only [blk_src]
    rfl
  · intro p h _
    rw [cos_step m c p h, cos_at, blk_ts, blk_times]
    simp only [blk_src]
    rfl

/-- The count scratch at the last point. -/
theorem cnt_last (t : Fin cfg0.N) (ht : t.val + 1 = cfg0.N) (b : Fin 16) (v : Fin 36) (j : Fin 512) :
    (outsAt0 m c t.val t.isLt).2.2.2.1 (ix3 b v j) = ∑ p : Fin cfg0.N, mk (srcAt m c b (lane p j) v) := by
  refine (Pipeline.eq_sum_fin_of_reset_step_apply_last (N := cfg0.N)
    (fun n h (_ : Unit) => (outsAt0 m c n h).2.2.2.1 (ix3 b v j)) 4 (fun _ => 0)
    (fun p _ => mk (srcAt m c b (lane p j) v)) ?_ ?_ (le_of_eq N_0) t ht ()).trans (zero_add _)
  · intro p h _
    rw [cnt_reset m c p h, pay19_at, pay15_at]
    simp only [blk_src]
    rfl
  · intro p h _
    rw [cnt_step m c p h, pay19_at]
    simp only [blk_src]
    rfl

/-- The value scratch at the last point. -/
theorem val_last (t : Fin cfg0.N) (ht : t.val + 1 = cfg0.N) (b : Fin 16) (j : Fin 512) :
    (outsAt0 m c t.val t.isLt).2.2.2.2 (ix2 b j) = ∑ p : Fin cfg0.N, ∑ v : Fin 36, srcAt m c b (lane p j) v := by
  refine (Pipeline.eq_sum_fin_of_reset_step_apply_last (N := cfg0.N)
    (fun n h (_ : Unit) => (outsAt0 m c n h).2.2.2.2 (ix2 b j)) 4 (fun _ => 0)
    (fun p _ => ∑ v : Fin 36, srcAt m c b (lane p j) v) ?_ ?_ (le_of_eq N_0) t ht ()).trans (zero_add _)
  · intro p h _
    rw [val_reset m c p h, pay20_at, pay16_at]
    simp only [blk_src]
    rfl
  · intro p h _
    rw [val_step m c p h, pay20_at]
    simp only [blk_src]
    rfl

/-! ## The epilogue's values -/

variable (t : Fin cfg0.N) (ht : t.val + 1 = cfg0.N)

include ht

/-- The count of a variable's observations. -/
theorem varCount (b : Fin 16) (v : Fin 36) :
    ∑ j : Fin 512, (outsAt0 m c t.val t.isLt).2.2.2.1 (ix3 b v j) = ∑ r : Fin 2048, mk (srcAt m c b r v) := by
  simp only [cnt_last m c t ht]
  exact sum_lanes fun r => mk (srcAt m c b r v)

/-- The count of a sample's observations. -/
theorem count (b : Fin 16) :
    ∑ v : Fin 36, ∑ j : Fin 512, (outsAt0 m c t.val t.isLt).2.2.2.1 (ix3 b v j) = cnt (srcAt m c b) := by
  simp only [varCount m c t ht]
  exact Finset.sum_comm

/-- The sum of a sample's values. -/
theorem values (b : Fin 16) :
    ∑ j : Fin 512, (outsAt0 m c t.val t.isLt).2.2.2.2 (ix2 b j) = ∑ r : Fin 2048, ∑ v : Fin 36, srcAt m c b r v := by
  simp only [val_last m c t ht]
  exact sum_lanes fun r => ∑ v : Fin 36, srcAt m c b r v

/-- The summed times' encoding. -/
theorem encSum (e b : Fin 16) :
    k0_pay9 (F := Ideal) (outsAt0 m c t.val t.isLt).2.1 (outsAt0 m c t.val t.isLt).2.2.1 (iblk m c 5 t) (ix2 e b)
      = ∑ r : Fin 2048, enc (timeAt m c b r) e * ∑ v : Fin 36, mk (srcAt m c b r v) := by
  rw [pay9_at _ _ _ (blk_eye m c t)]
  unfold enc
  split_ifs with h
  · refine Eq.trans (Finset.sum_congr rfl fun j _ => sin_last m c t ht ⟨e.val, h⟩ b j) ?_
    exact sum_lanes fun r => Ideal.sin (Ideal.div (timeAt m c b r) (ts ⟨e.val, h⟩)) * ∑ v : Fin 36, mk (srcAt m c b r v)
  · refine Eq.trans (Finset.sum_congr rfl fun j _ => cos_last m c t ht ⟨e.val - 8, by omega⟩ b j) ?_
    exact sum_lanes fun r => Ideal.cos (Ideal.div (timeAt m c b r) (ts ⟨e.val - 8, by omega⟩)) * ∑ v : Fin 36, mk (srcAt m c b r v)

omit ht in
/-- The first half of the map's weights. -/
theorem map_lo (k : Fin 48) (n : Fin 128) :
    View.ld (Val := Elt Ideal) (iblk m c 8 t) (Rect.unit (s := S96x128) ![0, 0] ![48, 128] inb_S96x128_S48x128_0_0) (ix2 k n)
      = m ((c : Thread nD τ).loc main_arg6) (ix2 n (⟨k.val, by omega⟩ : Fin 96)) := by
  refine Eq.trans ?_ (blk_wmap m c t ⟨k.val, by omega⟩ n)
  refine congrArg (iblk m c 8 t) ?_
  funext a
  fin_cases a
  · refine Fin.ext ?_
    simp [Rect.unit, Rect.emb]
  · refine Fin.ext ?_
    simp [Rect.unit, Rect.emb]

omit ht in
/-- The second half of the map's weights. -/
theorem map_hi (k : Fin 48) (n : Fin 128) :
    View.ld (Val := Elt Ideal) (iblk m c 8 t) (Rect.unit (s := S96x128) ![48, 0] ![48, 128] inb_S96x128_S48x128_48_0) (ix2 k n)
      = m ((c : Thread nD τ).loc main_arg6) (ix2 n (⟨48 + k.val, by omega⟩ : Fin 96)) := by
  refine Eq.trans ?_ (blk_wmap m c t ⟨48 + k.val, by omega⟩ n)
  refine congrArg (iblk m c 8 t) ?_
  funext a
  fin_cases a
  · refine Fin.ext ?_
    simp [Rect.unit, Rect.emb]
  · refine Fin.ext ?_
    simp [Rect.unit, Rect.emb]

/-- The result of one sample, from the arguments. -/
def kerOut (b : Fin 16) (n : Fin 2) : EReal :=
  tailRow
    (fun k => kerRow (srcAt m c b) (fun r e => enc (timeAt m c b r) e) (fun v e => enc (varNum v) e)
        (fun e => m ((c : Thread nD τ).loc main_arg4) (ix2 e 0)) (fun e => m ((c : Thread nD τ).loc main_arg5) (ix1 e))
        (fun l => m ((c : Thread nD τ).loc main_arg6) (ix2 k l))
      + m ((c : Thread nD τ).loc main_arg7) (ix1 k))
    (fun q => m ((c : Thread nD τ).loc main_arg1) (ix2 b q)) (fun e q => m ((c : Thread nD τ).loc main_arg8) (ix2 e q))
    (fun e => m ((c : Thread nD τ).loc main_arg9) (ix1 e)) (fun k l => m ((c : Thread nD τ).loc main_arg10) (ix2 k l))
    (fun k => m ((c : Thread nD τ).loc main_arg11) (ix1 k)) (fun i k => m ((c : Thread nD τ).loc main_arg12) (ix2 i k))
    (fun i => m ((c : Thread nD τ).loc main_arg13) (ix1 i)) n

/-- The last point writes the result of every sample. -/
theorem out_eq (b : Fin 16) (n : Fin 2) : (outsAt0 m c t.val t.isLt).1 (ix2 b n) = kerOut m c b n := by
  have h3 : t.val % 4 = 3 := by have : t.val + 1 = 4 := ht.trans N_0; omega
  have hc : ∑ v : Fin 36, ∑ r : Fin 2048, mk (srcAt m c b r v) = cnt (srcAt m c b) := Finset.sum_comm
  rw [out_last m c t h3, out_at]
  unfold kerOut
  simp only [pay10_at, pay5_at, pay6_at, pay7_at, pay8_at, encSum m c t ht, count m c t ht, values m c t ht,
    varCount m c t ht, map_lo, map_hi, blk_static, blk_wv, blk_bv, blk_bmap, blk_we, blk_be, blk_w1, blk_b1, blk_w2, blk_b2,
    blk_var, hc, ← Nat.add_assoc, Nat.reduceAdd]
  unfold kerRow
  with_reducible rfl

omit ht in
/-- The result array at an index. -/
theorem result_at (b : Fin 16) (n : Fin 2) : Cert.KernelIdeal.Value.G16 m c (ix2 b n) = kerOut m c b n := by
  have e := out_eq m c ⟨3, lt_of_lt_of_eq (by decide) N_0.symm⟩ N_0.symm b n
  rw [Cert.KernelIdeal.Value.outsAt0_sweep m c 3 _] at e
  rw [Cert.KernelIdeal.Value.G16_last m c]
  exact e

end Cert.Seft.Ker

end
-- ==== Proof.RefStages.lean ====
/-
  The reference's result in stages: each stage a function of the arguments, the composed term of the reference's run the last
  of them, and each stage read at an index.
-/
module

public import Idealize.ShloMosaic.Lib.Pointwise
public import Idealize.ShloMosaic.Lib.IdealHost
public import proofs.«01_k».proof.Proof.Spec
public import proofs.«01_k».proof.Proof.Gen.ReferenceIdeal.Run

@[expose] public section

set_option maxRecDepth 16384

noncomputable section

namespace Cert.Seft.Ref

open Idealize.ShloMosaic Idealize.ShloMosaic.TcCoe Idealize.SL.Sem
open Cert.ReferenceIdeal Cert.ReferenceIdeal.Gen

/-! ## The stages -/

/-- The observations: the first 36 variables, sample by sample. -/
def src (a0 : FVec Ideal S2048x16x72 .f32) : FVec Ideal S16x2048x36 .f32 :=
  extractStridedSlice S16x2048x36 ![0, 0, 0] (transpose S16x2048x72 [1, 0, 2] a0 transposes_S2048x16x72_S16x2048x72_1_0_2) slices_S16x2048x72_S16x2048x36_0_0_0

/-- The mask of the observations. -/
def mask (a0 : FVec Ideal S2048x16x72 .f32) : FVec Ideal S16x2048x36 .f32 :=
  uitofp (F := Ideal) .f32 (cmpf .une (src a0) (broadcastInDim S16x2048x36 ![] bcast_S_S16x2048x36 (constant (F := Ideal) S_ .f32 0x00000000#32)))

/-- The count of each sample's observations. -/
def count (a0 : FVec Ideal S2048x16x72 .f32) : FVec Ideal S16 .f32 :=
  Host.reduceAdd (mask a0) (constant (F := Ideal) S_ .f32 0x00000000#32) reducesTo_S16x2048x36_S16_d1_2 h_S_

/-- The times' encoding. -/
def tpe (a2 : FVec Ideal S2048x16 .f32) : FVec Ideal S16x2048x16 .f32 :=
  concatenate S16x2048x16 2 [⟨S16x2048x8, (Host.sin (Host.divf (broadcastInDim S16x2048x8 ![0, 1, 2] bcast_S16x2048x1_S16x2048x8_0_1_2 (broadcastInDim S16x2048x1 ![0, 1] bcast_S16x2048_S16x2048x1_0_1 (transpose S16x2048 [1, 0] a2 transposes_S2048x16_S16x2048_1_0))) (broadcastInDim S16x2048x8 ![0, 1, 2] bcast_S1x1x8_S16x2048x8_0_1_2 (broadcastInDim S1x1x8 ![2] bcast_S8_S1x1x8_2 ((fun i => FloatOps.ofBits (F := Ideal) .f32 (lit0 (S8.rowMajor i))))))))⟩, ⟨S16x2048x8, (Host.cos (Host.divf (broadcastInDim S16x2048x8 ![0, 1, 2] bcast_S16x2048x1_S16x2048x8_0_1_2 (broadcastInDim S16x2048x1 ![0, 1] bcast_S16x2048_S16x2048x1_0_1 (transpose S16x2048 [1, 0] a2 transposes_S2048x16_S16x2048_1_0))) (broadcastInDim S16x2048x8 ![0, 1, 2] bcast_S1x1x8_S16x2048x8_0_1_2 (broadcastInDim S1x1x8 ![2] bcast_S8_S1x1x8_2 ((fun i => FloatOps.ofBits (F := Ideal) .f32 (lit0 (S8.rowMajor i))))))))⟩] concatenates_S16x2048x8_S16x2048x8_S16x2048x16_d2

/-- The variables' encoding. -/
def vpe  : FVec Ideal S36x16 .f32 :=
  concatenate S36x16 1 [⟨S36x8, (Host.sin (Host.divf (broadcastInDim S36x8 ![0, 1] bcast_S36x1_S36x8_0_1 (broadcastInDim S36x1 ![0] bcast_S36_S36x1_0 (sitofp (F := Ideal) .f32 (iotaInDim S36 32 0)))) (broadcastInDim S36x8 ![0, 1] bcast_S1x8_S36x8_0_1 (broadcastInDim S1x8 ![1] bcast_S8_S1x8_1 ((fun i => FloatOps.ofBits (F := Ideal) .f32 (lit1 (S8.rowMajor i))))))))⟩, ⟨S36x8, (Host.cos (Host.divf (broadcastInDim S36x8 ![0, 1] bcast_S36x1_S36x8_0_1 (broadcastInDim S36x1 ![0] bcast_S36_S36x1_0 (sitofp (F := Ideal) .f32 (iotaInDim S36 32 0)))) (broadcastInDim S36x8 ![0, 1] bcast_S1x8_S36x8_0_1 (broadcastInDim S1x8 ![1] bcast_S8_S1x8_1 ((fun i => FloatOps.ofBits (F := Ideal) .f32 (lit1 (S8.rowMajor i))))))))⟩] concatenates_S36x8_S36x8_S36x16_d1

/-- The times' encoding times the mask, summed. -/
def sumPe (a0 : FVec Ideal S2048x16x72 .f32) (a2 : FVec Ideal S2048x16 .f32) : FVec Ideal S16x16 .f32 :=
  Host.reduceAdd (mulf (broadcastInDim S16x2048x36x16 ![0, 1, 2, 3] bcast_S16x2048x1x16_S16x2048x36x16_0_1_2_3 (broadcastInDim S16x2048x1x16 ![0, 1, 3] bcast_S16x2048x16_S16x2048x1x16_0_1_3 (tpe a2))) (broadcastInDim S16x2048x36x16 ![0, 1, 2, 3] bcast_S16x2048x36x1_S16x2048x36x16_0_1_2_3 (broadcastInDim S16x2048x36x1 ![0, 1, 2] bcast_S16x2048x36_S16x2048x36x1_0_1_2 (mask a0)))) (constant (F := Ideal) S_ .f32 0x00000000#32) reducesTo_S16x2048x36x16_S16x16_d1_2 h_S_

/-- The values' embedding times the mask, summed. -/
def sumVal (a0 : FVec Ideal S2048x16x72 .f32) (a4 : FVec Ideal S16x1 .f32) (a5 : FVec Ideal S16 .f32) : FVec Ideal S16x16 .f32 :=
  Host.reduceAdd (mulf (addf (mulf (broadcastInDim S16x2048x36x16 ![0, 1, 2, 3] bcast_S16x2048x36x1_S16x2048x36x16_0_1_2_3 (broadcastInDim S16x2048x36x1 ![0, 1, 2] bcast_S16x2048x36_S16x2048x36x1_0_1_2 (src a0))) (broadcastInDim S16x2048x36x16 ![0, 1, 2, 3] bcast_S1x1x1x16_S16x2048x36x16_0_1_2_3 (broadcastInDim S1x1x1x16 ![3] bcast_S16_S1x1x1x16_3 (shapeCast S16 a4 shapeCasts_S16x1_S16)))) (broadcastInDim S16x2048x36x16 ![0, 1, 2, 3] bcast_S1x1x1x16_S16x2048x36x16_0_1_2_3 (broadcastInDim S1x1x1x16 ![3] bcast_S16_S1x1x1x16_3 a5))) (broadcastInDim S16x2048x36x16 ![0, 1, 2, 3] bcast_S16x2048x36x1_S16x2048x36x16_0_1_2_3 (broadcastInDim S16x2048x36x1 ![0, 1, 2] bcast_S16x2048x36_S16x2048x36x1_0_1_2 (mask a0)))) (constant (F := Ideal) S_ .f32 0x00000000#32) reducesTo_S16x2048x36x16_S16x16_d1_2 h_S_

/-- The variables' encoding times the mask, summed. -/
def sumVar (a0 : FVec Ideal S2048x16x72 .f32) : FVec Ideal S16x16 .f32 :=
  Host.reduceAdd (mulf (broadcastInDim S16x2048x36x16 ![0, 1, 2, 3] bcast_S1x1x36x16_S16x2048x36x16_0_1_2_3 (broadcastInDim S1x1x36x16 ![2, 3] bcast_S36x16_S1x1x36x16_2_3 vpe)) (broadcastInDim S16x2048x36x16 ![0, 1, 2, 3] bcast_S16x2048x36x1_S16x2048x36x16_0_1_2_3 (broadcastInDim S16x2048x36x1 ![0, 1, 2] bcast_S16x2048x36_S16x2048x36x1_0_1_2 (mask a0)))) (constant (F := Ideal) S_ .f32 0x00000000#32) reducesTo_S16x2048x36x16_S16x16_d1_2 h_S_

/-- The three sums beside one another. -/
def feats (a0 : FVec Ideal S2048x16x72 .f32) (a2 : FVec Ideal S2048x16 .f32) (a4 : FVec Ideal S16x1 .f32) (a5 : FVec Ideal S16 .f32) : FVec Ideal S16x48 .f32 :=
  concatenate S16x48 1 [⟨S16x16, sumPe a0 a2⟩, ⟨S16x16, sumVal a0 a4 a5⟩, ⟨S16x16, sumVar a0⟩] concatenates_S16x16_S16x16_S16x16_S16x48_d1

/-- The sums over the count, at least one. -/
def avg (a0 : FVec Ideal S2048x16x72 .f32) (a2 : FVec Ideal S2048x16 .f32) (a4 : FVec Ideal S16x1 .f32) (a5 : FVec Ideal S16 .f32) : FVec Ideal S16x48 .f32 :=
  Host.divf ((feats a0 a2 a4 a5)) (broadcastInDim S16x48 ![0, 1] bcast_S16x1_S16x48_0_1 (broadcastInDim S16x1 ![0] bcast_S16_S16x1_0 (maximumf (count a0) (broadcastInDim S16 ![] bcast_S_S16 (constant (F := Ideal) S_ .f32 0x3F800000#32)))))

/-- The quotients twice, zero for a sample without observations. -/
def sel (a0 : FVec Ideal S2048x16x72 .f32) (a2 : FVec Ideal S2048x16 .f32) (a4 : FVec Ideal S16x1 .f32) (a5 : FVec Ideal S16 .f32) : FVec Ideal S16x96 .f32 :=
  select (broadcastInDim S16x96 ![0, 1] bcast_S16x1_S16x96_0_1 (cmpf .ogt (broadcastInDim S16x1 ![0] bcast_S16_S16x1_0 (count a0)) (broadcastInDim S16x1 ![] bcast_S_S16x1 (constant (F := Ideal) S_ .f32 0x00000000#32)))) (concatenate S16x96 1 [⟨S16x48, (avg a0 a2 a4 a5)⟩, ⟨S16x48, (avg a0 a2 a4 a5)⟩] concatenates_S16x48_S16x48_S16x96_d1) (broadcastInDim S16x96 ![] bcast_S_S16x96 (id (constant (F := Ideal) S_ .f32 0x00000000#32)))

/-- The map. -/
def mapped (a0 : FVec Ideal S2048x16x72 .f32) (a2 : FVec Ideal S2048x16 .f32) (a4 : FVec Ideal S16x1 .f32) (a5 : FVec Ideal S16 .f32) (a6 : FVec Ideal S128x96 .f32) (a7 : FVec Ideal S128 .f32) : FVec Ideal S16x128 .f32 :=
  addf (Host.dotGeneral dot_S16x96_S96x128_S16x128_1_0_0_1_n_n none (sel a0 a2 a4 a5) (transpose S96x128 [1, 0] a6 transposes_S128x96_S96x128_1_0)) (broadcastInDim S16x128 ![0, 1] bcast_S1x128_S16x128_0_1 (broadcastInDim S1x128 ![1] bcast_S128_S1x128_1 a7))

/-- The static embedding. -/
def emb (a1 : FVec Ideal S16x9 .f32) (a8 : FVec Ideal S16x9 .f32) (a9 : FVec Ideal S16 .f32) : FVec Ideal S16x16 .f32 :=
  addf (Host.dotGeneral dot_S16x9_S9x16_S16x16_1_0_0_1_n_n none a1 (transpose S9x16 [1, 0] a8 transposes_S16x9_S9x16_1_0)) (broadcastInDim S16x16 ![0, 1] bcast_S1x16_S16x16_0_1 (broadcastInDim S1x16 ![1] bcast_S16_S1x16_1 a9))

/-- The result. -/
def result (a0 : FVec Ideal S2048x16x72 .f32) (a1 : FVec Ideal S16x9 .f32) (a2 : FVec Ideal S2048x16 .f32) (a4 : FVec Ideal S16x1 .f32) (a5 : FVec Ideal S16 .f32) (a6 : FVec Ideal S128x96 .f32) (a7 : FVec Ideal S128 .f32) (a8 : FVec Ideal S16x9 .f32) (a9 : FVec Ideal S16 .f32) (a10 : FVec Ideal S144x144 .f32) (a11 : FVec Ideal S144 .f32) (a12 : FVec Ideal S2x144 .f32) (a13 : FVec Ideal S2 .f32) : FVec Ideal S16x2 .f32 :=
  addf (Host.dotGeneral dot_S16x144_S144x2_S16x2_1_0_0_1_n_n none (maximumf (addf (Host.dotGeneral dot_S16x144_S144x144_S16x144_1_0_0_1_n_n none (concatenate S16x144 1 [⟨S16x128, (mapped a0 a2 a4 a5 a6 a7)⟩, ⟨S16x16, (emb a1 a8 a9)⟩] concatenates_S16x128_S16x16_S16x144_d1) (transpose S144x144 [1, 0] a10 transposes_S144x144_S144x144_1_0)) (broadcastInDim S16x144 ![0, 1] bcast_S1x144_S16x144_0_1 (broadcastInDim S1x144 ![1] bcast_S144_S1x144_1 a11))) (broadcastInDim S16x144 ![] bcast_S_S16x144 (constant (F := Ideal) S_ .f32 0x00000000#32))) (transpose S144x2 [1, 0] a12 transposes_S2x144_S144x2_1_0)) (broadcastInDim S16x2 ![0, 1] bcast_S1x2_S16x2_0_1 (broadcastInDim S1x2 ![1] bcast_S2_S1x2_1 a13))

/-- The run's composed term is the last stage. -/
theorem run_eq (m : (ℓ : Loc nD τ sig) → Buf (Elt Ideal) ℓ) (c : Dev nD) :
    Cert.ReferenceIdeal.Value.res_main_v79 (F := Ideal) m c
      = result (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := rfl

/-! ## The stages at an index -/

/-- The position of a timescale in its list. -/
theorem e8 (d : Fin 8) : S8.rowMajor (ix1 d) = d := Fin.ext (by rw [rowMajor_val1]; simp)

/-- The words of the timescales. -/
theorem lit0_word (d : Fin 8) : lit0 d = tsWord d := by revert d; decide +kernel

/-- The words of the timescales in their second list. -/
theorem lit1_word (d : Fin 8) : lit1 d = tsWord d := by revert d; decide +kernel

/-- The observations at an index. -/
theorem src_at (a0 : FVec Ideal S2048x16x72 .f32) (b : Fin 16) (t : Fin 2048) (v : Fin 36) :
    src a0 (ix3 b t v) = a0 (ix3 t b (⟨v.val, by omega⟩ : Fin 72)) := by
  pointwise [src]

/-- The mask at an index: 1 where the observation is not zero. -/
theorem mask_at (a0 : FVec Ideal S2048x16x72 .f32) (b : Fin 16) (t : Fin 2048) (v : Fin 36) :
    mask a0 (ix3 b t v) = mk (a0 (ix3 t b (⟨v.val, by omega⟩ : Fin 72))) := by
  rw [← src_at a0 b t v]
  pointwise [mask]
  by_cases h : src a0 (ix3 b t v) = 0 <;> simp [mk, h, FloatOps.uitofp]

/-- The count at an index: the mask, summed. -/
theorem count_at (a0 : FVec Ideal S2048x16x72 .f32) (b : Fin 16) :
    count a0 (ix1 b) = ∑ t : Fin 2048, ∑ v : Fin 36, mask a0 (ix3 b t v) := by
  pointwise [count]

/-- The times' encoding at an index. -/
theorem tpe_at (a2 : FVec Ideal S2048x16 .f32) (b : Fin 16) (t : Fin 2048) (e : Fin 16) :
    tpe a2 (ix3 b t e) = enc (a2 (ix2 t b)) e := by
  pointwise [tpe]
  unfold enc
  split_ifs with h
  · exact congrArg (fun r => Ideal.sin (Ideal.div _ (Ideal.ofBits .f32 r))) ((congrArg lit0 (e8 ⟨e.val, h⟩)).trans (lit0_word ⟨e.val, h⟩))
  all_goals exact congrArg (fun r => Ideal.cos (Ideal.div _ (Ideal.ofBits .f32 r))) ((congrArg lit0 (e8 ⟨e.val - 8, by omega⟩)).trans (lit0_word ⟨e.val - 8, by omega⟩))

/-- The variables' encoding at an index. -/
theorem vpe_at (v : Fin 36) (e : Fin 16) : vpe (ix2 v e) = enc (varNum v) e := by
  pointwise [vpe]
  unfold enc varNum
  split_ifs with h
  · exact congrArg (fun r => Ideal.sin (Ideal.div _ (Ideal.ofBits .f32 r))) ((congrArg lit1 (e8 ⟨e.val, h⟩)).trans (lit1_word ⟨e.val, h⟩))
  all_goals exact congrArg (fun r => Ideal.cos (Ideal.div _ (Ideal.ofBits .f32 r))) ((congrArg lit1 (e8 ⟨e.val - 8, by omega⟩)).trans (lit1_word ⟨e.val - 8, by omega⟩))

/-- The host's sum over the two middle axes of four, at an index. -/
theorem sum_mid (h : S16x2048x36x16.ReducesTo [1, 2] S16x16) (x : S16x2048x36x16.Idx → EReal) (init : EReal) (b e : Fin 16) :
    Ideal.hostReduceAdd h x init (ix2 b e) = init + ∑ t : Fin 2048, ∑ v : Fin 36, x (ix4 b t v e) := by
  refine congrArg (init + ·) ?_
  refine (Finset.sum_filter_eq_sum_of_fiber _ (fun k : Fin 2048 × Fin 36 => ix4 b k.1 k.2 e) ?_ ?_ x).trans
    (Fintype.sum_prod_type fun k : Fin 2048 × Fin 36 => x (ix4 b k.1 k.2 e))
  · intro k l q
    exact Prod.ext (congrFun q 1) (congrFun q 2)
  · intro i
    constructor
    · intro q
      refine ⟨(i 1, i 2), ?_⟩
      funext a; apply Fin.ext
      match a with
      | ⟨0, _⟩ => exact (congrArg Fin.val (congrFun q 0)).symm
      | ⟨1, _⟩ => rfl
      | ⟨2, _⟩ => rfl
      | ⟨3, _⟩ => exact (congrArg Fin.val (congrFun q 1)).symm
    · rintro ⟨k, rfl⟩
      funext a; apply Fin.ext
      match a with
      | ⟨0, _⟩ => rfl
      | ⟨1, _⟩ => rfl

/-- The times' sum at an index. -/
theorem sumPe_at (a0 : FVec Ideal S2048x16x72 .f32) (a2 : FVec Ideal S2048x16 .f32) (b e : Fin 16) :
    sumPe a0 a2 (ix2 b e) = ∑ t : Fin 2048, ∑ v : Fin 36, tpe a2 (ix3 b t e) * mask a0 (ix3 b t v) := by
  refine (sum_mid _ _ _ b e).trans ((congrArg (· + _) Ideal.ofBits_zero_f32).trans ((zero_add _).trans ?_))
  refine Finset.sum_congr rfl fun t _ => Finset.sum_congr rfl fun v _ => ?_
  pointwise

/-- The values' sum at an index. -/
theorem sumVal_at (a0 : FVec Ideal S2048x16x72 .f32) (a4 : FVec Ideal S16x1 .f32) (a5 : FVec Ideal S16 .f32) (b e : Fin 16) :
    sumVal a0 a4 a5 (ix2 b e)
      = ∑ t : Fin 2048, ∑ v : Fin 36, (src a0 (ix3 b t v) * a4 (ix2 e 0) + a5 (ix1 e)) * mask a0 (ix3 b t v) := by
  refine (sum_mid _ _ _ b e).trans ((congrArg (· + _) Ideal.ofBits_zero_f32).trans ((zero_add _).trans ?_))
  refine Finset.sum_congr rfl fun t _ => Finset.sum_congr rfl fun v _ => ?_
  pointwise

/-- The variables' sum at an index. -/
theorem sumVar_at (a0 : FVec Ideal S2048x16x72 .f32) (b e : Fin 16) :
    sumVar a0 (ix2 b e) = ∑ t : Fin 2048, ∑ v : Fin 36, vpe (ix2 v e) * mask a0 (ix3 b t v) := by
  refine (sum_mid _ _ _ b e).trans ((congrArg (· + _) Ideal.ofBits_zero_f32).trans ((zero_add _).trans ?_))
  refine Finset.sum_congr rfl fun t _ => Finset.sum_congr rfl fun v _ => ?_
  pointwise

/-! ## The features -/

/-- The value of variable `v` of sample `b` at time `r`. -/
def obs (a0 : FVec Ideal S2048x16x72 .f32) (b : Fin 16) (r : Fin 2048) (v : Fin 36) : EReal := a0 (ix3 r b (⟨v.val, by omega⟩ : Fin 72))

/-- The count of a sample's observations, as the specification has it. -/
theorem count_eq (a0 : FVec Ideal S2048x16x72 .f32) (b : Fin 16) : count a0 (ix1 b) = cnt (obs a0 b) := by
  rw [count_at]
  simp only [mask_at]
  rfl

/-- The features of one sample, the arrays' values written out. -/
abbrev featOf (a0 : FVec Ideal S2048x16x72 .f32) (a2 : FVec Ideal S2048x16 .f32) (a4 : FVec Ideal S16x1 .f32) (a5 : FVec Ideal S16 .f32) (b : Fin 16) (k : ℕ) : EReal :=
  feat (obs a0 b) (fun t e => enc (a2 (ix2 t b)) e) (fun v e => enc (varNum v) e) (fun e => a4 (ix2 e 0)) (fun e => a5 (ix1 e)) k

/-- The three sums at an index: a feature of the specification. -/
theorem feats_at (a0 : FVec Ideal S2048x16x72 .f32) (a2 : FVec Ideal S2048x16 .f32) (a4 : FVec Ideal S16x1 .f32) (a5 : FVec Ideal S16 .f32) (b : Fin 16) (k : Fin 48) :
    feats a0 a2 a4 a5 (ix2 b k) = featOf a0 a2 a4 a5 b k.val := by
  unfold featOf feat
  pointwise [feats]
  simp only [sumPe_at, sumVal_at, sumVar_at, mask_at, tpe_at, vpe_at, src_at, Nat.sub_sub, Nat.reduceAdd]
  have h3 : k.val - 32 < 16 := by have := k.isLt; omega
  simp only [h3, ↓reduceDIte]
  split_ifs <;> rfl

/-- A feature over the count, at least one. -/
theorem avg_at (a0 : FVec Ideal S2048x16x72 .f32) (a2 : FVec Ideal S2048x16 .f32) (a4 : FVec Ideal S16x1 .f32) (a5 : FVec Ideal S16 .f32) (b : Fin 16) (k : Fin 48) :
    avg a0 a2 a4 a5 (ix2 b k) = Ideal.div (featOf a0 a2 a4 a5 b k.val) (max (cnt (obs a0 b)) 1) := by
  rw [← feats_at, ← count_eq]
  pointwise [avg]

/-- The features twice over, zero for a sample without observations. -/
theorem sel_at (a0 : FVec Ideal S2048x16x72 .f32) (a2 : FVec Ideal S2048x16 .f32) (a4 : FVec Ideal S16x1 .f32) (a5 : FVec Ideal S16 .f32) (b : Fin 16) (k : Fin 96) :
    sel a0 a2 a4 a5 (ix2 b k)
      = if 0 < cnt (obs a0 b) then Ideal.div (featOf a0 a2 a4 a5 b (k.val % 48)) (max (cnt (obs a0 b)) 1) else 0 := by
  pointwise [sel]
  rw [count_eq]
  by_cases h : 0 < cnt (obs a0 b)
  · rw [if_pos h, if_pos h]
    simp only [avg_at]
    split_ifs with hk
    · rw [Nat.mod_eq_of_lt hk]
    · rw [show k.val % 48 = k.val - 48 by omega]
  · rw [if_neg h, if_neg h]
    exact Ideal.ofBits_zero_f32

/-- A mapped feature with its bias. -/
theorem mapped_at (a0 : FVec Ideal S2048x16x72 .f32) (a2 : FVec Ideal S2048x16 .f32) (a4 : FVec Ideal S16x1 .f32) (a5 : FVec Ideal S16 .f32) (a6 : FVec Ideal S128x96 .f32) (a7 : FVec Ideal S128 .f32) (b : Fin 16) (n : Fin 128) :
    mapped a0 a2 a4 a5 a6 a7 (ix2 b n)
      = refRow (obs a0 b) (fun t e => enc (a2 (ix2 t b)) e) (fun v e => enc (varNum v) e) (fun e => a4 (ix2 e 0))
          (fun e => a5 (ix1 e)) (fun l => a6 (ix2 n l)) + a7 (ix1 n) := by
  unfold refRow
  simp only [← sel_at]
  pointwise [mapped]

/-- The static embedding at an index. -/
theorem emb_at (a1 : FVec Ideal S16x9 .f32) (a8 : FVec Ideal S16x9 .f32) (a9 : FVec Ideal S16 .f32) (b e : Fin 16) :
    emb a1 a8 a9 (ix2 b e) = (∑ q : Fin 9, a1 (ix2 b q) * a8 (ix2 e q)) + a9 (ix1 e) := by
  pointwise [emb]

/-- The result of one sample, from the arguments. -/
theorem result_at (a0 : FVec Ideal S2048x16x72 .f32) (a1 : FVec Ideal S16x9 .f32) (a2 : FVec Ideal S2048x16 .f32) (a4 : FVec Ideal S16x1 .f32) (a5 : FVec Ideal S16 .f32) (a6 : FVec Ideal S128x96 .f32) (a7 : FVec Ideal S128 .f32) (a8 : FVec Ideal S16x9 .f32) (a9 : FVec Ideal S16 .f32) (a10 : FVec Ideal S144x144 .f32) (a11 : FVec Ideal S144 .f32) (a12 : FVec Ideal S2x144 .f32) (a13 : FVec Ideal S2 .f32) (b : Fin 16) (n : Fin 2) :
    result a0 a1 a2 a4 a5 a6 a7 a8 a9 a10 a11 a12 a13 (ix2 b n)
      = tailRow
          (fun k => refRow (obs a0 b) (fun t e => enc (a2 (ix2 t b)) e) (fun v e => enc (varNum v) e) (fun e => a4 (ix2 e 0))
              (fun e => a5 (ix1 e)) (fun l => a6 (ix2 k l)) + a7 (ix1 k))
          (fun q => a1 (ix2 b q)) (fun e q => a8 (ix2 e q)) (fun e => a9 (ix1 e)) (fun k l => a10 (ix2 k l))
          (fun k => a11 (ix1 k)) (fun i k => a12 (ix2 i k)) (fun i => a13 (ix1 i)) n := by
  simp only [← mapped_at]
  unfold tailRow
  simp only [← emb_at]
  pointwise [result]

end Cert.Seft.Ref

end
-- ==== Proof.Finite.lean ====
/-
  The precondition read back: the observations' values, the times, the value layer's weight and bias and the map's weight are
  real numbers.
-/
module

public import Idealize.ShloMosaic.Lib.ReduceAll
public import Idealize.ShloMosaic.Lib.Pointwise
public import proofs.«01_k».proof.Proof.Spec
public import proofs.«01_k».proof.Pre_finite

@[expose] public section

set_option maxRecDepth 16384

noncomputable section

namespace Cert.Seft.Fin

open Idealize.ShloMosaic
open Cert.Pre_finite

/-- The side conditions of the precondition's operations. -/
theorem facts : Cert.Pre_finite.Facts where
  slices_S2048x16x72_S2048x16x36_0_0_0 := by decide
  bcast_S_S2048x16x36 := by decide
  reducesTo_S2048x16x36_S_d0_1_2 := by decide
  h_S_ := by decide
  bcast_S_S2048x16 := by decide
  reducesTo_S2048x16_S_d0_1 := by decide
  bcast_S_S16x1 := by decide
  reducesTo_S16x1_S_d0_1 := by decide
  bcast_S_S16 := by decide
  reducesTo_S16_S_d0 := by decide
  bcast_S_S128x96 := by decide
  reducesTo_S128x96_S_d0_1 := by decide

/-- The word of infinity. -/
theorem inf_word : Ideal.ofBits .f32 0x7F800000#32 = ⊤ := by
  simp [Ideal.ofBits, Ideal.ieee]

/-- A value whose absolute value compares less than infinity is a real number. -/
theorem real_of_cmp (x : EReal) (h : Ideal.cmp .olt (max x (-x)) (Ideal.ofBits .f32 0x7F800000#32) = 1#1) :
    ∃ r : ℝ, x = (r : EReal) := by
  rw [inf_word] at h
  induction x using EReal.rec with
  | bot => exfalso; revert h; simp [Ideal.cmp]
  | coe r => exact ⟨r, rfl⟩
  | top => exfalso; revert h; simp [Ideal.cmp]

/-- An array whose every absolute value compares less than infinity holds real numbers. -/
theorem real_of_all {s : Shape} {axes : List (Fin s.rank)} (x : FVec Ideal s .f32) (hb : S_.BroadcastsInDim s (![] : Fin 0 → Fin s.rank))
    (hr : s.ReducesTo axes S_) (hS : 0 < S_.numel) (j : S_.Idx)
    (e : Host.reduce IntOp.andi (cmpf .olt (Host.absf x) (broadcastInDim s ![] hb (constant (F := Ideal) S_ .f32 0x7F800000#32)))
      (constantI S_ 1 1#1) hr hS j = 1#1) (i : s.Idx) : ∃ r : ℝ, x i = (r : EReal) := by
  haveI : Subsingleton S_.Idx := ⟨fun a b => funext fun k => k.elim0⟩
  exact real_of_cmp _ (Host.reduce_andi_all _ _ hr hS j e i)

/-- What the precondition says of the five arrays it names. -/
theorem of_pre [Cert.Pre_finite.Facts] (a0 : FVec Ideal S2048x16x72 .f32) (a1 : FVec Ideal S16x9 .f32) (a2 : FVec Ideal S2048x16 .f32) (a3 : IVec S16 32)
    (a4 : FVec Ideal S16x1 .f32) (a5 : FVec Ideal S16 .f32) (a6 : FVec Ideal S128x96 .f32) (a7 : FVec Ideal S128 .f32)
    (a8 : FVec Ideal S16x9 .f32) (a9 : FVec Ideal S16 .f32) (a10 : FVec Ideal S144x144 .f32) (a11 : FVec Ideal S144 .f32)
    (a12 : FVec Ideal S2x144 .f32) (a13 : FVec Ideal S2 .f32) (j : S_.Idx)
    (e : Cert.Pre_finite.fn (F := Ideal) a0 a1 a2 a3 a4 a5 a6 a7 a8 a9 a10 a11 a12 a13 j = 1#1) :
    (∀ (t : Fin 2048) (b : Fin 16) (v : Fin 36), ∃ r : ℝ, a0 (ix3 t b (⟨v.val, by omega⟩ : Fin 72)) = (r : EReal))
      ∧ (∀ i, ∃ r : ℝ, a2 i = (r : EReal)) ∧ (∀ i, ∃ r : ℝ, a4 i = (r : EReal)) ∧ (∀ i, ∃ r : ℝ, a5 i = (r : EReal))
      ∧ (∀ i, ∃ r : ℝ, a6 i = (r : EReal)) := by
  obtain ⟨h14, h23⟩ := IntOp.andi_eq_one.1 e
  obtain ⟨h9, h13⟩ := IntOp.andi_eq_one.1 h14
  obtain ⟨h4, h8⟩ := IntOp.andi_eq_one.1 h9
  obtain ⟨h18, h22⟩ := IntOp.andi_eq_one.1 h23
  refine ⟨fun t b v => ?_, real_of_all _ _ _ _ _ h8, real_of_all _ _ _ _ _ h13, real_of_all _ _ _ _ _ h18, real_of_all _ _ _ _ _ h22⟩
  obtain ⟨r, hr⟩ := real_of_all _ _ _ _ _ h4 (ix3 t b v)
  refine ⟨r, Eq.trans ?_ hr⟩
  pointwise

end Cert.Seft.Fin

end
-- ==== Proof.Tie.lean ====
/-
  Where the arrays hold real numbers, a mapped feature as the kernel has it is the mapped feature as the reference has it; so are
  the results.
-/
module

public import proofs.«01_k».proof.Proof.Spec

@[expose] public section

noncomputable section

namespace Cert.Seft

open Idealize.ShloMosaic

variable {T V : ℕ}

/-- The two forms of a mapped feature agree when everything in them is real. -/
theorem row_tie (x : Fin T → Fin V → EReal) (p : Fin T → Fin 16 → EReal) (q : Fin V → Fin 16 → EReal) (wv bv : Fin 16 → EReal)
    (w : Fin 96 → EReal) (hx : ∀ t v, ∃ r : ℝ, x t v = (r : EReal)) (hp : ∀ t e, ∃ r : ℝ, p t e = (r : EReal))
    (hq : ∀ v e, ∃ r : ℝ, q v e = (r : EReal)) (hwv : ∀ e, ∃ r : ℝ, wv e = (r : EReal)) (hbv : ∀ e, ∃ r : ℝ, bv e = (r : EReal))
    (hw : ∀ k, ∃ r : ℝ, w k = (r : EReal)) : kerRow x p q wv bv w = refRow x p q wv bv w := by
  choose x' hx using hx
  choose p' hp using hp
  choose q' hq using hq
  choose wv' hwv using hwv
  choose bv' hbv using hbv
  choose w' hw using hw
  obtain rfl : x = fun t v => (x' t v : EReal) := funext fun t => funext fun v => hx t v
  obtain rfl : p = fun t e => (p' t e : EReal) := funext fun t => funext fun e => hp t e
  obtain rfl : q = fun v e => (q' v e : EReal) := funext fun v => funext fun e => hq v e
  obtain rfl : wv = fun e => (wv' e : EReal) := funext hwv
  obtain rfl : bv = fun e => (bv' e : EReal) := funext hbv
  obtain rfl : w = fun k => (w' k : EReal) := funext hw
  exact kerRow_eq_refRow x' p' q' wv' bv' w'

/-- The encoding of a value that is real is real. -/
theorem enc_real_of (x : EReal) (hx : ∃ r : ℝ, x = (r : EReal)) (e : Fin 16) : ∃ r : ℝ, enc x e = (r : EReal) := by
  obtain ⟨r, rfl⟩ := hx
  exact enc_real r e

end Cert.Seft

end
-- ==== Proof.lean ====
/-
  The proof of the certificate's claim: the frames from the generated frame runs, the value claim from the kernel's result at an
  index, the reference's result at an index, and their equality where the precondition makes the arrays real.
-/
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.KernelValue
public import proofs.«01_k».proof.Proof.RefStages
public import proofs.«01_k».proof.Proof.Finite
public import proofs.«01_k».proof.Proof.Tie
public import Idealize.ShloMosaic.Adequacy
public import Idealize.ShloMosaic.Init
public import Idealize.ShloMosaic.Lib.Quiescent

@[expose] public section

noncomputable section

namespace Cert.Proof

open Idealize.ShloMosaic Idealize.SL.Sem

/-- The side conditions of the precondition's operations. -/
instance pre_facts : Cert.Pre_finite.Facts := Cert.Seft.Fin.facts

/-- The reference terminates with its arguments unchanged and every counter at zero. -/
theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- From memories that agree on the arguments, where the precondition holds, the reference's result is the kernel's. -/
theorem value_eq (m : (ℓ : Loc Cert.KernelIdeal.nD Cert.KernelIdeal.τ Cert.KernelIdeal.sig) → Buf (Elt Ideal) ℓ)
    (c : Dev Cert.KernelIdeal.nD) (hpre : Pre_KernelIdeal_finite m) :
    Cert.Seft.Ref.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      = Cert.KernelIdeal.Value.G16 m c := by
  obtain ⟨h0, h2, h4, h5, h6⟩ := Cert.Seft.Fin.of_pre _ _ _ _ _ _ _ _ _ _ _ _ _ _ ix0 (congrFun (hpre c) ix0)
  funext i
  obtain ⟨b, n, rfl⟩ : ∃ (b : Fin 16) (n : Fin 2), i = ix2 b n := ⟨i 0, i 1, by funext a; fin_cases a <;> rfl⟩
  refine (Cert.Seft.Ref.result_at _ _ _ _ _ _ _ _ _ _ _ _ _ b n).trans (Eq.trans ?_ (Cert.Seft.Ker.result_at m c b n).symm)
  unfold Cert.Seft.Ker.kerOut
  refine congrArg (fun A => Cert.Seft.tailRow A _ _ _ _ _ _ _ n) (funext fun k => congrArg (· + _) (Eq.symm ?_))
  exact Cert.Seft.row_tie _ _ _ _ _ _ (fun t v => h0 t b v) (fun t e => Cert.Seft.enc_real_of _ (h2 _) e)
    (fun v e => Cert.Seft.enc_real_of _ (Cert.Seft.varNum_real v) e) (fun e => h4 _) (fun e => h5 _) (fun l => h6 _)

/-- The value claim: where the precondition holds, the kernel's result is the reference's. -/
theorem algebraic : algebraic_KernelIdeal_ReferenceIdeal_pre_finite := by
  intro m ρ m' ρ' hpre hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1]
  refine Eq.trans ?_ (value_eq m c hpre)
  refine (Cert.Seft.Ref.run_eq m' c).trans ?_
  obtain ⟨e0, e1, e2, -, e4, e5, e6, e7, e8, e9, e10, e11, e12, e13⟩ := hagree c
  rw [e0, e1, e2, e4, e5, e6, e7, e8, e9, e10, e11, e12, e13]

/-- Everything the certificate claims. -/
theorem claim : Cert.Claim := ⟨Cert.Kernel.Gen.facts, Cert.KernelIdeal.Gen.facts, Cert.ReferenceIdeal.Gen.facts, pre_facts,
  fun m ρ _ => Cert.Kernel.Gen.frame m ρ, fun m ρ _ => Cert.KernelIdeal.Gen.frame m ρ,
  fun m ρ _ => Cert.KernelIdeal.Gen.frame m ρ, quiescent_ReferenceIdeal, fun m ρ _ => quiescent_ReferenceIdeal m ρ trivial,
  (trivial : preserves_Kernel_KernelIdeal), algebraic⟩

end Cert.Proof

end
